-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![256, 1]⟩ ⟨2, ![4096, 1]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 128, 256]⟩ ⟨3, ![32, 128, 256]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![4096, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x32 : Shape := ⟨2, ![128, 32]⟩
abbrev S256x1 : Shape := ⟨2, ![256, 1]⟩
abbrev S2x128x256 : Shape := ⟨3, ![2, 128, 256]⟩
abbrev S128x256 : Shape := ⟨2, ![128, 256]⟩
abbrev S256x256 : Shape := ⟨2, ![256, 256]⟩
abbrev S9x2x128x256 : Shape := ⟨4, ![9, 2, 128, 256]⟩
abbrev S8x2x128x256 : Shape := ⟨4, ![8, 2, 128, 256]⟩
abbrev S8x4 : Shape := ⟨2, ![8, 4]⟩
abbrev S7x4 : Shape := ⟨2, ![7, 4]⟩
abbrev S_ : Shape := ⟨0, ![]⟩
abbrev S1x1 : Shape := ⟨2, ![1, 1]⟩
abbrev S1x1x64x256 : Shape := ⟨4, ![1, 1, 64, 256]⟩
abbrev S64x256 : Shape := ⟨2, ![64, 256]⟩
abbrev S1x64x256 : Shape := ⟨3, ![1, 64, 256]⟩
abbrev S256 : Shape := ⟨1, ![256]⟩
abbrev S256x32 : Shape := ⟨2, ![256, 32]⟩
abbrev S1x128x256 : Shape := ⟨3, ![1, 128, 256]⟩
abbrev S1x2x128x256 : Shape := ⟨4, ![1, 2, 128, 256]⟩

abbrev nBuf : Space → Nat
  | .hbm => 6
  | .vmem => 8
  | .smem => 0
  | _ => 0

abbrev bufTy : (tb : Table) → Fin (tcTables nBuf tb) → BufTy
  | .hbm, ⟨0, _⟩ => ⟨S256x128, .f32⟩
  | .hbm, ⟨1, _⟩ => ⟨S128x32, .f32⟩
  | .hbm, ⟨2, _⟩ => ⟨S256x1, .i32⟩
  | .hbm, ⟨3, _⟩ => ⟨S2x128x256, .f32⟩
  | .hbm, ⟨4, _⟩ => ⟨S128x256, .f32⟩
  | .hbm, ⟨5, _⟩ => ⟨S256x256, .f32⟩
  | .local _ .vmem, ⟨0, _⟩ => ⟨S256x128, .f32⟩
  | .local _ .vmem, ⟨1, _⟩ => ⟨S128x32, .f32⟩
  | .local _ .vmem, ⟨2, _⟩ => ⟨S256x1, .i32⟩
  | .local _ .vmem, ⟨3, _⟩ => ⟨S2x128x256, .f32⟩
  | .local _ .vmem, ⟨4, _⟩ => ⟨S128x256, .f32⟩
  | .local _ .vmem, ⟨5, _⟩ => ⟨S256x256, .f32⟩
  | .local _ .vmem, ⟨6, _⟩ => ⟨S9x2x128x256, .f32⟩
  | .local _ .vmem, ⟨7, _⟩ => ⟨S8x2x128x256, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 126 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | _ => false

abbrev sig : RefSig :=
  (ofTc nBuf bufTy 1 126 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_79 : BitVec 32 := 1#32
  let v94 : BitVec 32 := Scalar.muli v92 c1_i32_79
  let v95 : BitVec 32 := Scalar.addi c0_i32_80 v94
  v95.toNat
def k0_dev2 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_82 : BitVec 32 := 1#32
  let v96 : BitVec 32 := Scalar.muli v62 c1_i32_82
  let v97 : BitVec 32 := Scalar.addi c0_i32_83 v96
  v97.toNat
def k0_dev3 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_92 : BitVec 32 := 1#32
  let v98 : BitVec 32 := Scalar.muli v62 c1_i32_92
  let v99 : BitVec 32 := Scalar.addi c0_i32_93 v98
  v99.toNat
def k0_dev4 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_105 : BitVec 32 := 1#32
  let v108 : BitVec 32 := Scalar.muli v62 c1_i32_105
  let v109 : BitVec 32 := Scalar.addi c0_i32_106 v108
  v109.toNat
def k0_dev5 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_117 : BitVec 32 := 1#32
  let v118 : BitVec 32 := Scalar.muli v62 c1_i32_117
  let v119 : BitVec 32 := Scalar.addi c0_i32_118 v118
  v119.toNat
def k0_dev6 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_130 : BitVec 32 := 1#32
  let v128 : BitVec 32 := Scalar.muli v62 c1_i32_130
  let v129 : BitVec 32 := Scalar.addi c0_i32_131 v128
  v129.toNat
def k0_dev7 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_143 : BitVec 32 := 1#32
  let v138 : BitVec 32 := Scalar.muli v92 c1_i32_143
  let v139 : BitVec 32 := Scalar.addi c0_i32_144 v138
  v139.toNat
def k0_dev8 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_156 : BitVec 32 := 1#32
  let v148 : BitVec 32 := Scalar.muli v92 c1_i32_156
  let v149 : BitVec 32 := Scalar.addi c0_i32_157 v148
  v149.toNat
def k0_dev9 (d0 : Dev nD) : Nat :=
  let c0_i32_170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_169 : BitVec 32 := 1#32
  let v158 : BitVec 32 := Scalar.muli v92 c1_i32_169
  let v159 : BitVec 32 := Scalar.addi c0_i32_170 v158
  v159.toNat
def k0_dev10 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_182 : BitVec 32 := 1#32
  let v168 : BitVec 32 := Scalar.muli v92 c1_i32_182
  let v169 : BitVec 32 := Scalar.addi c0_i32_183 v168
  v169.toNat
def k0_dev11 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_232 : BitVec 32 := 1#32
  let v240 : BitVec 32 := Scalar.muli v62 c1_i32_232
  let v241 : BitVec 32 := Scalar.addi c0_i32_233 v240
  v241.toNat
def k0_dev12 (d0 : Dev nD) : Nat :=
  let c0_i32_260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_259 : BitVec 32 := 1#32
  let v258 : BitVec 32 := Scalar.muli v92 c1_i32_259
  let v259 : BitVec 32 := Scalar.addi c0_i32_260 v258
  v259.toNat
def k0_dev13 (d0 : Dev nD) : Nat :=
  let c0_i32_287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_286 : BitVec 32 := 1#32
  let v276 : BitVec 32 := Scalar.muli v62 c1_i32_286
  let v277 : BitVec 32 := Scalar.addi c0_i32_287 v276
  v277.toNat
def k0_dev14 (d0 : Dev nD) : Nat :=
  let c0_i32_314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_313 : BitVec 32 := 1#32
  let v294 : BitVec 32 := Scalar.muli v92 c1_i32_313
  let v295 : BitVec 32 := Scalar.addi c0_i32_314 v294
  v295.toNat
def k0_dev15 (d0 : Dev nD) : Nat :=
  let c0_i32_341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_340 : BitVec 32 := 1#32
  let v312 : BitVec 32 := Scalar.muli v62 c1_i32_340
  let v313 : BitVec 32 := Scalar.addi c0_i32_341 v312
  v313.toNat
def k0_dev16 (d0 : Dev nD) : Nat :=
  let c0_i32_368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_367 : BitVec 32 := 1#32
  let v330 : BitVec 32 := Scalar.muli v92 c1_i32_367
  let v331 : BitVec 32 := Scalar.addi c0_i32_368 v330
  v331.toNat
def k0_dev17 (d0 : Dev nD) : Nat :=
  let c0_i32_395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_394 : BitVec 32 := 1#32
  let v348 : BitVec 32 := Scalar.muli v62 c1_i32_394
  let v349 : BitVec 32 := Scalar.addi c0_i32_395 v348
  v349.toNat
def k0_dev18 (d0 : Dev nD) : Nat :=
  let c0_i32_422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_421 : BitVec 32 := 1#32
  let v366 : BitVec 32 := Scalar.muli v92 c1_i32_421
  let v367 : BitVec 32 := Scalar.addi c0_i32_422 v366
  v367.toNat
def k0_dev19 (d0 : Dev nD) : Nat :=
  let c0_i32_541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_540 : BitVec 32 := 1#32
  let v506 : BitVec 32 := Scalar.muli v62 c1_i32_540
  let v507 : BitVec 32 := Scalar.addi c0_i32_541 v506
  v507.toNat
def k0_dev20 (d0 : Dev nD) : Nat :=
  let c0_i32_569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_568 : BitVec 32 := 1#32
  let v524 : BitVec 32 := Scalar.muli v92 c1_i32_568
  let v525 : BitVec 32 := Scalar.addi c0_i32_569 v524
  v525.toNat
def k0_dev21 (d0 : Dev nD) : Nat :=
  let c0_i32_597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_596 : BitVec 32 := 1#32
  let v542 : BitVec 32 := Scalar.muli v62 c1_i32_596
  let v543 : BitVec 32 := Scalar.addi c0_i32_597 v542
  v543.toNat
def k0_dev22 (d0 : Dev nD) : Nat :=
  let c0_i32_625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_624 : BitVec 32 := 1#32
  let v560 : BitVec 32 := Scalar.muli v92 c1_i32_624
  let v561 : BitVec 32 := Scalar.addi c0_i32_625 v560
  v561.toNat
def k0_dev23 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_652 : BitVec 32 := 1#32
  let v578 : BitVec 32 := Scalar.muli v62 c1_i32_652
  let v579 : BitVec 32 := Scalar.addi c0_i32_653 v578
  v579.toNat
def k0_dev24 (d0 : Dev nD) : Nat :=
  let c0_i32_681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_680 : BitVec 32 := 1#32
  let v596 : BitVec 32 := Scalar.muli v92 c1_i32_680
  let v597 : BitVec 32 := Scalar.addi c0_i32_681 v596
  v597.toNat
def k0_dev25 (d0 : Dev nD) : Nat :=
  let c0_i32_709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_708 : BitVec 32 := 1#32
  let v614 : BitVec 32 := Scalar.muli v62 c1_i32_708
  let v615 : BitVec 32 := Scalar.addi c0_i32_709 v614
  v615.toNat
def k0_dev26 (d0 : Dev nD) : Nat :=
  let c0_i32_737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_736 : BitVec 32 := 1#32
  let v632 : BitVec 32 := Scalar.muli v92 c1_i32_736
  let v633 : BitVec 32 := Scalar.addi c0_i32_737 v632
  v633.toNat
def k0_dev27 (d0 : Dev nD) : Nat :=
  let c0_i32_856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_855 : BitVec 32 := 1#32
  let v772 : BitVec 32 := Scalar.muli v62 c1_i32_855
  let v773 : BitVec 32 := Scalar.addi c0_i32_856 v772
  v773.toNat
def k0_dev28 (d0 : Dev nD) : Nat :=
  let c0_i32_884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_883 : BitVec 32 := 1#32
  let v790 : BitVec 32 := Scalar.muli v92 c1_i32_883
  let v791 : BitVec 32 := Scalar.addi c0_i32_884 v790
  v791.toNat
def k0_dev29 (d0 : Dev nD) : Nat :=
  let c0_i32_912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_911 : BitVec 32 := 1#32
  let v808 : BitVec 32 := Scalar.muli v62 c1_i32_911
  let v809 : BitVec 32 := Scalar.addi c0_i32_912 v808
  v809.toNat
def k0_dev30 (d0 : Dev nD) : Nat :=
  let c0_i32_940 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_939 : BitVec 32 := 1#32
  let v826 : BitVec 32 := Scalar.muli v92 c1_i32_939
  let v827 : BitVec 32 := Scalar.addi c0_i32_940 v826
  v827.toNat
def k0_dev31 (d0 : Dev nD) : Nat :=
  let c0_i32_968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_967 : BitVec 32 := 1#32
  let v844 : BitVec 32 := Scalar.muli v62 c1_i32_967
  let v845 : BitVec 32 := Scalar.addi c0_i32_968 v844
  v845.toNat
def k0_dev32 (d0 : Dev nD) : Nat :=
  let c0_i32_996 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_995 : BitVec 32 := 1#32
  let v862 : BitVec 32 := Scalar.muli v92 c1_i32_995
  let v863 : BitVec 32 := Scalar.addi c0_i32_996 v862
  v863.toNat
def k0_dev33 (d0 : Dev nD) : Nat :=
  let c0_i32_1024 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_1023 : BitVec 32 := 1#32
  let v880 : BitVec 32 := Scalar.muli v62 c1_i32_1023
  let v881 : BitVec 32 := Scalar.addi c0_i32_1024 v880
  v881.toNat
def k0_dev34 (d0 : Dev nD) : Nat :=
  let c0_i32_1052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_1051 : BitVec 32 := 1#32
  let v898 : BitVec 32 := Scalar.muli v92 c1_i32_1051
  let v899 : BitVec 32 := Scalar.addi c0_i32_1052 v898
  v899.toNat
def k0_dev35 (d0 : Dev nD) : Nat :=
  let c0_i32_1171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_1170 : BitVec 32 := 1#32
  let v1038 : BitVec 32 := Scalar.muli v62 c1_i32_1170
  let v1039 : BitVec 32 := Scalar.addi c0_i32_1171 v1038
  v1039.toNat
def k0_dev36 (d0 : Dev nD) : Nat :=
  let c0_i32_1199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_1198 : BitVec 32 := 1#32
  let v1056 : BitVec 32 := Scalar.muli v92 c1_i32_1198
  let v1057 : BitVec 32 := Scalar.addi c0_i32_1199 v1056
  v1057.toNat
def k0_dev37 (d0 : Dev nD) : Nat :=
  let c0_i32_1227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_1226 : BitVec 32 := 1#32
  let v1074 : BitVec 32 := Scalar.muli v62 c1_i32_1226
  let v1075 : BitVec 32 := Scalar.addi c0_i32_1227 v1074
  v1075.toNat
def k0_dev38 (d0 : Dev nD) : Nat :=
  let c0_i32_1255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_1254 : BitVec 32 := 1#32
  let v1092 : BitVec 32 := Scalar.muli v92 c1_i32_1254
  let v1093 : BitVec 32 := Scalar.addi c0_i32_1255 v1092
  v1093.toNat
def k0_dev39 (d0 : Dev nD) : Nat :=
  let c0_i32_1283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_1282 : BitVec 32 := 1#32
  let v1110 : BitVec 32 := Scalar.muli v62 c1_i32_1282
  let v1111 : BitVec 32 := Scalar.addi c0_i32_1283 v1110
  v1111.toNat
def k0_dev40 (d0 : Dev nD) : Nat :=
  let c0_i32_1311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_1310 : BitVec 32 := 1#32
  let v1128 : BitVec 32 := Scalar.muli v92 c1_i32_1310
  let v1129 : BitVec 32 := Scalar.addi c0_i32_1311 v1128
  v1129.toNat
def k0_dev41 (d0 : Dev nD) : Nat :=
  let c0_i32_1339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_1338 : BitVec 32 := 1#32
  let v1146 : BitVec 32 := Scalar.muli v62 c1_i32_1338
  let v1147 : BitVec 32 := Scalar.addi c0_i32_1339 v1146
  v1147.toNat
def k0_dev42 (d0 : Dev nD) : Nat :=
  let c0_i32_1367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_1366 : BitVec 32 := 1#32
  let v1164 : BitVec 32 := Scalar.muli v92 c1_i32_1366
  let v1165 : BitVec 32 := Scalar.addi c0_i32_1367 v1164
  v1165.toNat
def k0_dev43 (d0 : Dev nD) : Nat :=
  let c0_i32_1486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_1485 : BitVec 32 := 1#32
  let v1304 : BitVec 32 := Scalar.muli v62 c1_i32_1485
  let v1305 : BitVec 32 := Scalar.addi c0_i32_1486 v1304
  v1305.toNat
def k0_dev44 (d0 : Dev nD) : Nat :=
  let c0_i32_1514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_1513 : BitVec 32 := 1#32
  let v1322 : BitVec 32 := Scalar.muli v92 c1_i32_1513
  let v1323 : BitVec 32 := Scalar.addi c0_i32_1514 v1322
  v1323.toNat
def k0_dev45 (d0 : Dev nD) : Nat :=
  let c0_i32_1542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_1541 : BitVec 32 := 1#32
  let v1340 : BitVec 32 := Scalar.muli v62 c1_i32_1541
  let v1341 : BitVec 32 := Scalar.addi c0_i32_1542 v1340
  v1341.toNat
def k0_dev46 (d0 : Dev nD) : Nat :=
  let c0_i32_1570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_1569 : BitVec 32 := 1#32
  let v1358 : BitVec 32 := Scalar.muli v92 c1_i32_1569
  let v1359 : BitVec 32 := Scalar.addi c0_i32_1570 v1358
  v1359.toNat
def k0_dev47 (d0 : Dev nD) : Nat :=
  let c0_i32_1598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_1597 : BitVec 32 := 1#32
  let v1376 : BitVec 32 := Scalar.muli v62 c1_i32_1597
  let v1377 : BitVec 32 := Scalar.addi c0_i32_1598 v1376
  v1377.toNat
def k0_dev48 (d0 : Dev nD) : Nat :=
  let c0_i32_1626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_1625 : BitVec 32 := 1#32
  let v1394 : BitVec 32 := Scalar.muli v92 c1_i32_1625
  let v1395 : BitVec 32 := Scalar.addi c0_i32_1626 v1394
  v1395.toNat
def k0_dev49 (d0 : Dev nD) : Nat :=
  let c0_i32_1654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_1653 : BitVec 32 := 1#32
  let v1412 : BitVec 32 := Scalar.muli v62 c1_i32_1653
  let v1413 : BitVec 32 := Scalar.addi c0_i32_1654 v1412
  v1413.toNat
def k0_dev50 (d0 : Dev nD) : Nat :=
  let c0_i32_1682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_1681 : BitVec 32 := 1#32
  let v1430 : BitVec 32 := Scalar.muli v92 c1_i32_1681
  let v1431 : BitVec 32 := Scalar.addi c0_i32_1682 v1430
  v1431.toNat
def k0_dev51 (d0 : Dev nD) : Nat :=
  let c0_i32_1801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_1800 : BitVec 32 := 1#32
  let v1570 : BitVec 32 := Scalar.muli v62 c1_i32_1800
  let v1571 : BitVec 32 := Scalar.addi c0_i32_1801 v1570
  v1571.toNat
def k0_dev52 (d0 : Dev nD) : Nat :=
  let c0_i32_1829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_1828 : BitVec 32 := 1#32
  let v1588 : BitVec 32 := Scalar.muli v92 c1_i32_1828
  let v1589 : BitVec 32 := Scalar.addi c0_i32_1829 v1588
  v1589.toNat
def k0_dev53 (d0 : Dev nD) : Nat :=
  let c0_i32_1857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_1856 : BitVec 32 := 1#32
  let v1606 : BitVec 32 := Scalar.muli v62 c1_i32_1856
  let v1607 : BitVec 32 := Scalar.addi c0_i32_1857 v1606
  v1607.toNat
def k0_dev54 (d0 : Dev nD) : Nat :=
  let c0_i32_1885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_1884 : BitVec 32 := 1#32
  let v1624 : BitVec 32 := Scalar.muli v92 c1_i32_1884
  let v1625 : BitVec 32 := Scalar.addi c0_i32_1885 v1624
  v1625.toNat
def k0_dev55 (d0 : Dev nD) : Nat :=
  let c0_i32_1913 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_1912 : BitVec 32 := 1#32
  let v1642 : BitVec 32 := Scalar.muli v62 c1_i32_1912
  let v1643 : BitVec 32 := Scalar.addi c0_i32_1913 v1642
  v1643.toNat
def k0_dev56 (d0 : Dev nD) : Nat :=
  let c0_i32_1941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_1940 : BitVec 32 := 1#32
  let v1660 : BitVec 32 := Scalar.muli v92 c1_i32_1940
  let v1661 : BitVec 32 := Scalar.addi c0_i32_1941 v1660
  v1661.toNat
def k0_dev57 (d0 : Dev nD) : Nat :=
  let c0_i32_1969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_1968 : BitVec 32 := 1#32
  let v1678 : BitVec 32 := Scalar.muli v62 c1_i32_1968
  let v1679 : BitVec 32 := Scalar.addi c0_i32_1969 v1678
  v1679.toNat
def k0_dev58 (d0 : Dev nD) : Nat :=
  let c0_i32_1997 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_76 : BitVec 32 := 15#32
  let v91 : BitVec 1 := Scalar.cmpi .eq v2 c15_i32_76
  let c12_i32_77 : BitVec 32 := 12#32
  let c14_i32_74 : BitVec 32 := 14#32
  let v89 : BitVec 1 := Scalar.cmpi .eq v2 c14_i32_74
  let c15_i32_75 : BitVec 32 := 15#32
  let c13_i32_72 : BitVec 32 := 13#32
  let v87 : BitVec 1 := Scalar.cmpi .eq v2 c13_i32_72
  let c9_i32_73 : BitVec 32 := 9#32
  let c12_i32_70 : BitVec 32 := 12#32
  let v85 : BitVec 1 := Scalar.cmpi .eq v2 c12_i32_70
  let c13_i32_71 : BitVec 32 := 13#32
  let c11_i32_68 : BitVec 32 := 11#32
  let v83 : BitVec 1 := Scalar.cmpi .eq v2 c11_i32_68
  let c10_i32_69 : BitVec 32 := 10#32
  let c10_i32_66 : BitVec 32 := 10#32
  let v81 : BitVec 1 := Scalar.cmpi .eq v2 c10_i32_66
  let c14_i32_67 : BitVec 32 := 14#32
  let c9_i32_64 : BitVec 32 := 9#32
  let v79 : BitVec 1 := Scalar.cmpi .eq v2 c9_i32_64
  let c8_i32_65 : BitVec 32 := 8#32
  let c8_i32_62 : BitVec 32 := 8#32
  let v77 : BitVec 1 := Scalar.cmpi .eq v2 c8_i32_62
  let c4_i32_63 : BitVec 32 := 4#32
  let c7_i32_60 : BitVec 32 := 7#32
  let v75 : BitVec 1 := Scalar.cmpi .eq v2 c7_i32_60
  let c11_i32_61 : BitVec 32 := 11#32
  let c6_i32_58 : BitVec 32 := 6#32
  let v73 : BitVec 1 := Scalar.cmpi .eq v2 c6_i32_58
  let c7_i32_59 : BitVec 32 := 7#32
  let c5_i32_56 : BitVec 32 := 5#32
  let v71 : BitVec 1 := Scalar.cmpi .eq v2 c5_i32_56
  let c1_i32_57 : BitVec 32 := 1#32
  let c4_i32_54 : BitVec 32 := 4#32
  let v69 : BitVec 1 := Scalar.cmpi .eq v2 c4_i32_54
  let c5_i32_55 : BitVec 32 := 5#32
  let c3_i32_52 : BitVec 32 := 3#32
  let v67 : BitVec 1 := Scalar.cmpi .eq v2 c3_i32_52
  let c2_i32_53 : BitVec 32 := 2#32
  let c2_i32_50 : BitVec 32 := 2#32
  let v65 : BitVec 1 := Scalar.cmpi .eq v2 c2_i32_50
  let c6_i32_51 : BitVec 32 := 6#32
  let c1_i32_47 : BitVec 32 := 1#32
  let v63 : BitVec 1 := Scalar.cmpi .eq v2 c1_i32_47
  let c0_i32_49 : BitVec 32 := 0#32
  let c3_i32_48 : BitVec 32 := 3#32
  let v64 : BitVec 32 := Scalar.select v63 c0_i32_49 c3_i32_48
  let v66 : BitVec 32 := Scalar.select v65 c6_i32_51 v64
  let v68 : BitVec 32 := Scalar.select v67 c2_i32_53 v66
  let v70 : BitVec 32 := Scalar.select v69 c5_i32_55 v68
  let v72 : BitVec 32 := Scalar.select v71 c1_i32_57 v70
  let v74 : BitVec 32 := Scalar.select v73 c7_i32_59 v72
  let v76 : BitVec 32 := Scalar.select v75 c11_i32_61 v74
  let v78 : BitVec 32 := Scalar.select v77 c4_i32_63 v76
  let v80 : BitVec 32 := Scalar.select v79 c8_i32_65 v78
  let v82 : BitVec 32 := Scalar.select v81 c14_i32_67 v80
  let v84 : BitVec 32 := Scalar.select v83 c10_i32_69 v82
  let v86 : BitVec 32 := Scalar.select v85 c13_i32_71 v84
  let v88 : BitVec 32 := Scalar.select v87 c9_i32_73 v86
  let v90 : BitVec 32 := Scalar.select v89 c15_i32_75 v88
  let v92 : BitVec 32 := Scalar.select v91 c12_i32_77 v90
  let c1_i32_1996 : BitVec 32 := 1#32
  let v1696 : BitVec 32 := Scalar.muli v92 c1_i32_1996
  let v1697 : BitVec 32 := Scalar.addi c0_i32_1997 v1696
  v1697.toNat
def k0_dev59 (d0 : Dev nD) : Nat :=
  let c0_i32_2116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_2115 : BitVec 32 := 1#32
  let v1836 : BitVec 32 := Scalar.muli v62 c1_i32_2115
  let v1837 : BitVec 32 := Scalar.addi c0_i32_2116 v1836
  v1837.toNat
def k0_dev60 (d0 : Dev nD) : Nat :=
  let c0_i32_2158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_2157 : BitVec 32 := 1#32
  let v1862 : BitVec 32 := Scalar.muli v62 c1_i32_2157
  let v1863 : BitVec 32 := Scalar.addi c0_i32_2158 v1862
  v1863.toNat
def k0_dev61 (d0 : Dev nD) : Nat :=
  let c0_i32_2200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_2199 : BitVec 32 := 1#32
  let v1888 : BitVec 32 := Scalar.muli v62 c1_i32_2199
  let v1889 : BitVec 32 := Scalar.addi c0_i32_2200 v1888
  v1889.toNat
def k0_dev62 (d0 : Dev nD) : Nat :=
  let c0_i32_2242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c10_i32_44 : BitVec 32 := 10#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c15_i32_40 : BitVec 32 := 15#32
  let c11_i32_37 : BitVec 32 := 11#32
  let v53 : BitVec 1 := Scalar.cmpi .eq v2 c11_i32_37
  let c7_i32_38 : BitVec 32 := 7#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c13_i32_34 : BitVec 32 := 13#32
  let c8_i32_31 : BitVec 32 := 8#32
  let v47 : BitVec 1 := Scalar.cmpi .eq v2 c8_i32_31
  let c9_i32_32 : BitVec 32 := 9#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c2_i32_28 : BitVec 32 := 2#32
  let c5_i32_25 : BitVec 32 := 5#32
  let v41 : BitVec 1 := Scalar.cmpi .eq v2 c5_i32_25
  let c4_i32_26 : BitVec 32 := 4#32
  let c4_i32_23 : BitVec 32 := 4#32
  let v39 : BitVec 1 := Scalar.cmpi .eq v2 c4_i32_23
  let c8_i32_24 : BitVec 32 := 8#32
  let c3_i32_21 : BitVec 32 := 3#32
  let v37 : BitVec 1 := Scalar.cmpi .eq v2 c3_i32_21
  let c0_i32_22 : BitVec 32 := 0#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c5_i32_18 : BitVec 32 := 5#32
  let c1_i32_17 : BitVec 32 := 1#32
  let v34 : BitVec 32 := Scalar.select v33 c5_i32_18 c1_i32_17
  let v36 : BitVec 32 := Scalar.select v35 c3_i32_20 v34
  let v38 : BitVec 32 := Scalar.select v37 c0_i32_22 v36
  let v40 : BitVec 32 := Scalar.select v39 c8_i32_24 v38
  let v42 : BitVec 32 := Scalar.select v41 c4_i32_26 v40
  let v44 : BitVec 32 := Scalar.select v43 c2_i32_28 v42
  let v46 : BitVec 32 := Scalar.select v45 c6_i32_30 v44
  let v48 : BitVec 32 := Scalar.select v47 c9_i32_32 v46
  let v50 : BitVec 32 := Scalar.select v49 c13_i32_34 v48
  let v52 : BitVec 32 := Scalar.select v51 c11_i32_36 v50
  let v54 : BitVec 32 := Scalar.select v53 c7_i32_38 v52
  let v56 : BitVec 32 := Scalar.select v55 c15_i32_40 v54
  let v58 : BitVec 32 := Scalar.select v57 c12_i32_42 v56
  let v60 : BitVec 32 := Scalar.select v59 c10_i32_44 v58
  let v62 : BitVec 32 := Scalar.select v61 c14_i32_46 v60
  let c1_i32_2241 : BitVec 32 := 1#32
  let v1914 : BitVec 32 := Scalar.muli v62 c1_i32_2241
  let v1915 : BitVec 32 := Scalar.addi c0_i32_2242 v1914
  v1915.toNat
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4096x128 : Shape := ⟨2, ![4096, 128]⟩
abbrev S128x32 : Shape := ⟨2, ![128, 32]⟩
abbrev S4096x1 : Shape := ⟨2, ![4096, 1]⟩
abbrev S32x128x256 : Shape := ⟨3, ![32, 128, 256]⟩
abbrev S128x256 : Shape := ⟨2, ![128, 256]⟩
abbrev S4096x32 : Shape := ⟨2, ![4096, 32]⟩
abbrev S_ : Shape := ⟨0, ![]⟩
abbrev S4096 : Shape := ⟨1, ![4096]⟩
abbrev S4096x256 : Shape := ⟨2, ![4096, 256]⟩
abbrev S4096x128x256 : Shape := ⟨3, ![4096, 128, 256]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 76
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S128x32, .f32⟩
  | .hbm, ⟨2, _⟩ => ⟨S4096x1, .i32⟩
  | .hbm, ⟨3, _⟩ => ⟨S32x128x256, .f32⟩
  | .hbm, ⟨4, _⟩ => ⟨S128x256, .f32⟩
  | .hbm, ⟨5, _⟩ => ⟨S4096x32, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S4096x32, .f32⟩
  | .hbm, ⟨10, _⟩ => ⟨S4096x32, .f32⟩
  | .hbm, ⟨11, _⟩ => ⟨S4096x32, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S4096x32, .f32⟩
  | .hbm, ⟨16, _⟩ => ⟨S4096x32, .f32⟩
  | .hbm, ⟨17, _⟩ => ⟨S4096x256, .f32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S4096, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S4096x128x256, .f32⟩
  | .hbm, ⟨43, _⟩ => ⟨S4096x256, .f32⟩
  | .hbm, ⟨44, _⟩ => ⟨S4096x1, .i32⟩
  | .hbm, ⟨45, _⟩ => ⟨S_, .i32⟩
  | .hbm, ⟨46, _⟩ => ⟨S4096x1, .i32⟩
  | .hbm, ⟨47, _⟩ => ⟨S4096x1, .i1⟩
  | .hbm, ⟨48, _⟩ => ⟨S_, .i32⟩
  | .hbm, ⟨49, _⟩ => ⟨S4096x1, .i32⟩
  | .hbm, ⟨50, _⟩ => ⟨S4096x1, .i32⟩
  | .hbm, ⟨51, _⟩ => ⟨S4096x1, .i32⟩
  | .hbm, ⟨52, _⟩ => ⟨S4096x1x1, .i32⟩
  | .hbm, ⟨53, _⟩ => ⟨S1, .i32⟩
  | .hbm, ⟨54, _⟩ => ⟨S_, .i32⟩
  | .hbm, ⟨55, _⟩ => ⟨S4096x1x1, .i32⟩
  | .hbm, ⟨56, _⟩ => ⟨S4096x1x1, .i1⟩
  | .hbm, ⟨57, _⟩ => ⟨S1x1x1, .i32⟩
  | .hbm, ⟨58, _⟩ => ⟨S4096x1x1, .i32⟩
  | .hbm, ⟨59, _⟩ => ⟨S4096x1x1, .i1⟩
  | .hbm, ⟨60, _⟩ => ⟨S4096x1x1, .i1⟩
  | .hbm, ⟨61, _⟩ => ⟨S_, .i1⟩
  | .hbm, ⟨62, _⟩ => ⟨S4096x1, .i1⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S4096, .f32⟩
  | .hbm, ⟨68, _⟩ => ⟨S_, .f32⟩
  | .hbm, ⟨69, _⟩ => ⟨S_, .f32⟩
  | .hbm, ⟨70, _⟩ => ⟨S4096, .f32⟩
  | .hbm, ⟨71, _⟩ => ⟨S4096, .f32⟩
  | .hbm, ⟨72, _⟩ => ⟨S4096x1, .f32⟩
  | .hbm, ⟨73, _⟩ => ⟨S4096x256, .f32⟩
  | .hbm, ⟨74, _⟩ => ⟨S4096x256, .f32⟩
  | .hbm, ⟨75, _⟩ => ⟨S4096x256, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_c_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_cst : Ref sig .tc := ⟨.hbm, 64, rfl⟩
abbrev main_call1_v14 : Ref sig .tc := ⟨.hbm, 65, rfl⟩
abbrev main_v27 : Ref sig .tc := ⟨.hbm, 66, rfl⟩
abbrev main_v28 : Ref sig .tc := ⟨.hbm, 67, rfl⟩
abbrev main_cst_6 : Ref sig .tc := ⟨.hbm, 68, rfl⟩
abbrev main_call2_v0 : Ref sig .tc := ⟨.hbm, 69, rfl⟩
abbrev main_call2_v1 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩

abbrev nD : Nat := 1
abbrev τ : Topo := Topo.v7x

variable {F : FTy → Type} [FloatOps F]
-- ==== Proof.Shape.lean ====
/-
The kernel's body, written as the protocol it runs.

The body's text is one long sequence of statements. Here it is the same sequence put together from a few
named pieces: the start of one transfer around either ring, the wait at one of its two ends, and one hop of the
loop (the four pieces of a hop forwarded, then the two received expert pairs added). `body_eq` says that the
printed body is that program.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.Sem

variable {F : FTy → Type} [FloatOps F]

/-! ## The buffers and semaphores -/

/-- The device's block of tokens. -/
abbrev xM : Memref sig .tc .vmem S256x128 .f32 := Memref.whole cc0_stg0_0
/-- The router's weights. -/
abbrev rwM : Memref sig .tc .vmem S128x32 .f32 := Memref.whole cc0_stg1_0
/-- The expert each token is routed to. -/
abbrev ixM : Memref sig .tc .vmem S256x1 .i32 := Memref.whole cc0_stg2_0
/-- The device's own pair of experts. -/
abbrev ewM : Memref sig .tc .vmem S2x128x256 .f32 := Memref.whole cc0_stg3_0
/-- The shared expert. -/
abbrev swM : Memref sig .tc .vmem S128x256 .f32 := Memref.whole cc0_stg4_0
/-- The device's block of the result. -/
abbrev outM : Memref sig .tc .vmem S256x256 .f32 := Memref.whole cc0_stg5_0
/-- Landing slots of the ring that runs forward. -/
abbrev rM : Memref sig .tc .vmem S9x2x128x256 .f32 := Memref.whole cc0_scratch0
/-- Landing slots of the ring that runs backward. -/
abbrev lM : Memref sig .tc .vmem S8x2x128x256 .f32 := Memref.whole cc0_scratch1

theorem inb_rSlot (s : Fin 9) (q : Fin 4) (a : Fin 4) :
    (![s.val, q.val / 2, q.val % 2 * 64, 0] : Fin 4 → ℕ) a + S1x1x64x256.size a ≤ S9x2x128x256.size a := by
  revert s q a; decide
theorem inb_lSlot (s : Fin 8) (q : Fin 4) (a : Fin 4) :
    (![s.val, q.val / 2, q.val % 2 * 64, 0] : Fin 4 → ℕ) a + S1x1x64x256.size a ≤ S8x2x128x256.size a := by
  revert s q a; decide
theorem inb_own (q : Fin 4) (a : Fin 3) :
    (![q.val / 2, q.val % 2 * 64, 0] : Fin 3 → ℕ) a + S1x64x256.size a ≤ S2x128x256.size a := by
  revert q a; decide
theorem inb_sem8 (h : Fin 8) (q : Fin 4) (a : Fin 2) : (![h.val, q.val] : Fin 2 → ℕ) a + S1x1.size a ≤ S8x4.size a := by
  revert h q a; decide
theorem inb_sem7 (h : Fin 7) (q : Fin 4) (a : Fin 2) : (![h.val, q.val] : Fin 2 → ℕ) a + S1x1.size a ≤ S7x4.size a := by
  revert h q a; decide
theorem inb_rPair (s : Fin 9) (a : Fin 4) : (![s.val, 0, 0, 0] : Fin 4 → ℕ) a + S1x2x128x256.size a ≤ S9x2x128x256.size a := by
  revert s a; decide
theorem inb_lPair (s : Fin 8) (a : Fin 4) : (![s.val, 0, 0, 0] : Fin 4 → ℕ) a + S1x2x128x256.size a ≤ S8x2x128x256.size a := by
  revert s a; decide

/-- Piece `q` of forward slot `s`: half of one expert's rows. -/
abbrev rSlot (s : Fin 9) (q : Fin 4) : Memref sig .tc .vmem S64x256 .f32 :=
  (rM.slice (Rect.unit (s := S9x2x128x256) ![s.val, q.val / 2, q.val % 2 * 64, 0] S1x1x64x256.size (inb_rSlot s q)) (fun _ => rfl)).squeeze
    S64x256 squeezes_S1x1x64x256_S64x256
/-- Piece `q` of backward slot `s`. -/
abbrev lSlot (s : Fin 8) (q : Fin 4) : Memref sig .tc .vmem S64x256 .f32 :=
  (lM.slice (Rect.unit (s := S8x2x128x256) ![s.val, q.val / 2, q.val % 2 * 64, 0] S1x1x64x256.size (inb_lSlot s q)) (fun _ => rfl)).squeeze
    S64x256 squeezes_S1x1x64x256_S64x256
/-- Piece `q` of the device's own pair. -/
abbrev own (q : Fin 4) : Memref sig .tc .vmem S64x256 .f32 :=
  (ewM.slice (Rect.unit (s := S2x128x256) ![q.val / 2, q.val % 2 * 64, 0] S1x64x256.size (inb_own q)) (fun _ => rfl)).squeeze
    S64x256 squeezes_S1x64x256_S64x256

abbrev rSend (h : Fin 8) (q : Fin 4) : DmaSem sig :=
  ((cc0_scratch2.slice (Rect.unit (s := S8x4) ![h.val, q.val] S1x1.size (inb_sem8 h q))).squeeze S_ squeezes_S1x1_S_).sem
abbrev rRecv (h : Fin 8) (q : Fin 4) : DmaSem sig :=
  ((cc0_scratch3.slice (Rect.unit (s := S8x4) ![h.val, q.val] S1x1.size (inb_sem8 h q))).squeeze S_ squeezes_S1x1_S_).sem
abbrev lSend (h : Fin 7) (q : Fin 4) : DmaSem sig :=
  ((cc0_scratch4.slice (Rect.unit (s := S7x4) ![h.val, q.val] S1x1.size (inb_sem7 h q))).squeeze S_ squeezes_S1x1_S_).sem
abbrev lRecv (h : Fin 7) (q : Fin 4) : DmaSem sig :=
  ((cc0_scratch5.slice (Rect.unit (s := S7x4) ![h.val, q.val] S1x1.size (inb_sem7 h q))).squeeze S_ squeezes_S1x1_S_).sem
/-- The runtime's barrier semaphore. -/
abbrev barS : Sem sig := (SemArray.scalar (sig.barrier 0 rfl) : Sems sig S_).sem

/-! ## The pieces -/

/-- The label type of a body's programs. -/
abbrev P (F : FTy → Type) [FloatOps F] (α : Type) : Type 1 := Prog (TpuEff nD τ sig (Elt F) Λ₀ .tc) α

/-- A 64 × 256 transfer to device `n`. -/
abbrev send (n : Dev nD) (src dst : Memref sig .tc .vmem S64x256 .f32) (s r : DmaSem sig)
    (hs : src.view.WordExact) (hd : dst.view.WordExact) : P F PUnit :=
  Prog.lift (.enqueueDma src (.remote (Dev.tc n) dst (.dma s)) (.dma r) hs hd ⟨⟨rfl, Or.inl rfl⟩, trivial⟩)
abbrev await (s : DmaSem sig) (src dst : Memref sig .tc .vmem S64x256 .f32)
    (hs : src.view.WordExact) (hd : dst.view.WordExact) : P F PUnit :=
  Prog.lift (.waitDma2 s src dst hs hd)

theorem rExact (s : Fin 9) (q : Fin 4) : (rSlot s q).view.WordExact := (View.wordExact_bits rfl).reshape _ _
theorem lExact (s : Fin 8) (q : Fin 4) : (lSlot s q).view.WordExact := (View.wordExact_bits rfl).reshape _ _
theorem ownExact (q : Fin 4) : (own q).view.WordExact := (View.wordExact_bits rfl).reshape _ _

/-- The first transfer of piece `q` around each ring, out of the device's own pair. -/
def rStart0 (n : Dev nD) (q : Fin 4) : P F PUnit := send n (own q) (rSlot 1 q) (rSend 0 q) (rRecv 0 q) (ownExact q) (rExact 1 q)
def lStart0 (n : Dev nD) (q : Fin 4) : P F PUnit := send n (own q) (lSlot 1 q) (lSend 0 q) (lRecv 0 q) (ownExact q) (lExact 1 q)
/-- Hop `h + 1` of piece `q`, out of the slot hop `h` landed in. -/
def rStart (n : Dev nD) (h : Fin 7) (q : Fin 4) : P F PUnit :=
  send n (rSlot h.succ.castSucc q) (rSlot h.succ.succ q) (rSend h.succ q) (rRecv h.succ q) (rExact _ q) (rExact _ q)
def lStart (n : Dev nD) (h : Fin 6) (q : Fin 4) : P F PUnit :=
  send n (lSlot h.succ.castSucc q) (lSlot h.succ.succ q) (lSend h.succ q) (lRecv h.succ q) (lExact _ q) (lExact _ q)

/-- The wait for the arrival of hop 0's piece `q`, and of hop `h + 1`'s. -/
def rGot0 (q : Fin 4) : P F PUnit := await (rRecv 0 q) (own q) (rSlot 1 q) (ownExact q) (rExact 1 q)
def lGot0 (q : Fin 4) : P F PUnit := await (lRecv 0 q) (own q) (lSlot 1 q) (ownExact q) (lExact 1 q)
def rGot (h : Fin 7) (q : Fin 4) : P F PUnit :=
  await (rRecv h.succ q) (rSlot h.succ.castSucc q) (rSlot h.succ.succ q) (rExact _ q) (rExact _ q)
def lGot (h : Fin 6) (q : Fin 4) : P F PUnit :=
  await (lRecv h.succ q) (lSlot h.succ.castSucc q) (lSlot h.succ.succ q) (lExact _ q) (lExact _ q)

/-- The wait for hop 0's piece `q` to have left, and for hop `h + 1`'s. -/
def rLeft0 (q : Fin 4) : P F PUnit := await (rSend 0 q) (rSlot 1 q) (own q) (rExact 1 q) (ownExact q)
def lLeft0 (q : Fin 4) : P F PUnit := await (lSend 0 q) (lSlot 1 q) (own q) (lExact 1 q) (ownExact q)
def rLeft (h : Fin 7) (q : Fin 4) : P F PUnit :=
  await (rSend h.succ q) (rSlot h.succ.succ q) (rSlot h.succ.castSucc q) (rExact _ q) (rExact _ q)
def lLeft (h : Fin 6) (q : Fin 4) : P F PUnit :=
  await (lSend h.succ q) (lSlot h.succ.succ q) (lSlot h.succ.castSucc q) (lExact _ q) (lExact _ q)

/-- The pair landed in a slot, loaded whole. -/
def rLoad (s : Fin 9) : P F (Vec F S1x2x128x256 .f32) :=
  Prog.lift (.load rM (Rect.unit (s := S9x2x128x256) ![s.val, 0, 0, 0] S1x2x128x256.size (inb_rPair s)).toLoadRect (View.loadsAt_vmem h_S1x2x128x256))
def lLoad (s : Fin 8) : P F (Vec F S1x2x128x256 .f32) :=
  Prog.lift (.load lM (Rect.unit (s := S8x2x128x256) ![s.val, 0, 0, 0] S1x2x128x256.size (inb_lPair s)).toLoadRect (View.loadsAt_vmem h_S1x2x128x256))

/-! ## The values -/

/-- Entry `k` of a table of sixteen words, as the body's chain of comparisons looks it up. -/
def table (t0 t1 t2 t3 t4 t5 t6 t7 t8 t9 t10 t11 t12 t13 t14 t15 k : BitVec 32) : BitVec 32 :=
  Scalar.select (Scalar.cmpi .eq k 15#32) t15 <| Scalar.select (Scalar.cmpi .eq k 14#32) t14 <|
  Scalar.select (Scalar.cmpi .eq k 13#32) t13 <| Scalar.select (Scalar.cmpi .eq k 12#32) t12 <|
  Scalar.select (Scalar.cmpi .eq k 11#32) t11 <| Scalar.select (Scalar.cmpi .eq k 10#32) t10 <|
  Scalar.select (Scalar.cmpi .eq k 9#32) t9 <| Scalar.select (Scalar.cmpi .eq k 8#32) t8 <|
  Scalar.select (Scalar.cmpi .eq k 7#32) t7 <| Scalar.select (Scalar.cmpi .eq k 6#32) t6 <|
  Scalar.select (Scalar.cmpi .eq k 5#32) t5 <| Scalar.select (Scalar.cmpi .eq k 4#32) t4 <|
  Scalar.select (Scalar.cmpi .eq k 3#32) t3 <| Scalar.select (Scalar.cmpi .eq k 2#32) t2 <|
  Scalar.select (Scalar.cmpi .eq k 1#32) t1 t0

/-- The device's id as the body reads it, and its place on the cycle. -/
def myW (d : Dev nD) : BitVec 32 := Scalar.remsi (Scalar.divsi (Dev.word d) 1#32) 16#32
def posW (d : Dev nD) : BitVec 32 := table 0#32 1#32 14#32 15#32 3#32 2#32 13#32 12#32 4#32 5#32 10#32 11#32 7#32 6#32 9#32 8#32 (myW d)
/-- The device at a place on the cycle. -/
def cycleW (k : BitVec 32) : BitVec 32 := table 0#32 1#32 5#32 4#32 8#32 9#32 13#32 12#32 15#32 14#32 10#32 11#32 7#32 6#32 2#32 3#32 k
/-- Where the pair that hop `h` brings forward (backward) started. -/
def rOrigin (d : Dev nD) (h : Fin 8) : BitVec 32 :=
  cycleW (Scalar.remsi (Scalar.addi (Scalar.subi (posW d) (BitVec.ofNat 32 (h.val + 1))) 16#32) 16#32)
def lOrigin (d : Dev nD) (h : Fin 7) : BitVec 32 :=
  cycleW (Scalar.remsi (Scalar.addi (Scalar.addi (posW d) (BitVec.ofNat 32 h.val)) 1#32) 16#32)

/-- One pair's contribution added: `o` is the device the pair `w` belongs to, `p` each token's routing weight. -/
def addPair (x : FVec F S256x128 .f32) (e : IVec S256 32) (p : FVec F S256 .f32) (acc : FVec F S256x256 .f32)
    (o : BitVec 32) (w : FVec F S2x128x256 .f32) : FVec F S256x256 .f32 :=
  let t (e' : BitVec 32) : FVec F S256 .f32 :=
    select (cmpi .eq e (broadcast S256 e')) p (broadcast S256 (Scalar.ofBits .f32 0x00000000#32))
  let y (w' : FVec F S1x128x256 .f32) : FVec F S256x256 .f32 :=
    matmul dot_S256x128_S128x256_S256x256_1_0_0_1_n_n none x (shapeCast S128x256 w' shapeCasts_S1x128x256_S128x256) (constant S256x256 .f32 0x00000000#32)
  let g (t' : FVec F S256 .f32) : FVec F S256x256 .f32 :=
    broadcastTo S256x256 (shapeCast S256x1 t' shapeCasts_S256_S256x1) broadcasts_S256x1_S256x256
  addf (addf acc (mulf (g (t (Scalar.addi (Scalar.muli o 2#32) 0#32)))
      (y (extractStridedSlice S1x128x256 ![0, 0, 0] w slices_S2x128x256_o0_0_0_S1x128x256))))
    (mulf (g (t (Scalar.addi (Scalar.muli o 2#32) 1#32)))
      (y (extractStridedSlice S1x128x256 ![1, 0, 0] w slices_S2x128x256_o1_0_0_S1x128x256)))

/-- The pair a slot holds, without the slot's axis. -/
def pairOf (w : Vec F S1x2x128x256 .f32) : FVec F S2x128x256 .f32 := shapeCast S2x128x256 w shapeCasts_S1x2x128x256_S2x128x256

/-- Each token's routing weight. -/
def weight (x : Vec F S256x128 .f32) (ix : Vec F S256x1 .i32) (rw' : Vec F S128x32 .f32) : FVec F S256 .f32 :=
  k0_pay5 (k0_pay2 ix) (k0_pay3 x rw') (k0_pay4 x rw')

/-- The sum before the first hop: the shared expert and the device's own pair. -/
def acc0 (d : Dev nD) (x : Vec F S256x128 .f32) (ix : Vec F S256x1 .i32) (rw' : Vec F S128x32 .f32) (sw : Vec F S128x256 .f32)
    (ew : Vec F S2x128x256 .f32) : FVec F S256x256 .f32 :=
  k0_pay6 (myW d) (k0_pay1 x) (k0_pay2 ix) (k0_pay3 x rw') (k0_pay4 x rw') sw ew

/-- A pair added that hop `h` brought, forward and backward. -/
def rAdd (d : Dev nD) (h : Fin 8) (x : Vec F S256x128 .f32) (ix : Vec F S256x1 .i32) (p : FVec F S256 .f32)
    (acc : FVec F S256x256 .f32) (w : Vec F S1x2x128x256 .f32) : FVec F S256x256 .f32 :=
  addPair (k0_pay1 x) (k0_pay2 ix) p acc (rOrigin d h) (pairOf w)
def lAdd (d : Dev nD) (h : Fin 7) (x : Vec F S256x128 .f32) (ix : Vec F S256x1 .i32) (p : FVec F S256 .f32)
    (acc : FVec F S256x256 .f32) (w : Vec F S1x2x128x256 .f32) : FVec F S256x256 .f32 :=
  addPair (k0_pay1 x) (k0_pay2 ix) p acc (lOrigin d h) (pairOf w)

/-! ## The program -/

/-- The neighbours on the cycle, as the body computes them. -/
def nxtW (d : Dev nD) : Dev nD := ⟨k0_dev3 d, k0_dev3_lt d⟩
def prvW (d : Dev nD) : Dev nD := ⟨k0_dev7 d, k0_dev7_lt d⟩

/-- Piece `q` of hop 0 received both ways and sent on. -/
def pump0 (d : Dev nD) (q : Fin 4) : P F PUnit := do
  rGot0 q; rStart (nxtW d) 0 q; lGot0 q; lStart (prvW d) 0 q
/-- Piece `q` of hop `h + 1`, for the five such hops after which both rings go on. -/
def pump (d : Dev nD) (h : Fin 5) (q : Fin 4) : P F PUnit := do
  rGot h.castSucc.castSucc q; rStart (nxtW d) h.succ.castSucc q; lGot h.castSucc q; lStart (prvW d) h.succ q
/-- Hop 6: the backward ring is done. -/
def pump6 (d : Dev nD) (q : Fin 4) : P F PUnit := do
  rGot 5 q; rStart (nxtW d) 6 q; lGot 5 q

/-- The two pairs a hop brought, loaded and added. -/
def gather (d : Dev nD) (h : Fin 7) (x : Vec F S256x128 .f32) (ix : Vec F S256x1 .i32) (p : FVec F S256 .f32)
    (acc : FVec F S256x256 .f32) : P F (FVec F S256x256 .f32) := do
  let wr ← rLoad h.castSucc.succ
  let wl ← lLoad h.succ
  pure (lAdd d h x ix p (rAdd d h.castSucc x ix p acc wr) wl)

def hop0 (d : Dev nD) (x : Vec F S256x128 .f32) (ix : Vec F S256x1 .i32) (p : FVec F S256 .f32)
    (acc : FVec F S256x256 .f32) : P F (FVec F S256x256 .f32) := do
  pump0 d 0; pump0 d 1; pump0 d 2; pump0 d 3
  gather d 0 x ix p acc
def hop (d : Dev nD) (h : Fin 5) (x : Vec F S256x128 .f32) (ix : Vec F S256x1 .i32) (p : FVec F S256 .f32)
    (acc : FVec F S256x256 .f32) : P F (FVec F S256x256 .f32) := do
  pump d h 0; pump d h 1; pump d h 2; pump d h 3
  gather d h.castSucc.succ x ix p acc
def hop6 (d : Dev nD) (x : Vec F S256x128 .f32) (ix : Vec F S256x1 .i32) (p : FVec F S256 .f32)
    (acc : FVec F S256x256 .f32) : P F (FVec F S256x256 .f32) := do
  pump6 d 0; pump6 d 1; pump6 d 2; pump6 d 3
  gather d 6 x ix p acc
def hop7 (d : Dev nD) (x : Vec F S256x128 .f32) (ix : Vec F S256x1 .i32) (p : FVec F S256 .f32)
    (acc : FVec F S256x256 .f32) : P F (FVec F S256x256 .f32) := do
  rGot 6 0; rGot 6 1; rGot 6 2; rGot 6 3
  let wr ← rLoad 8
  pure (rAdd d 7 x ix p acc wr)

/-- Four transfers of a hop waited for at their source, both rings piece by piece. -/
def left (h : Fin 6) : P F PUnit := do
  rLeft h.castSucc 0; lLeft h 0; rLeft h.castSucc 1; lLeft h 1; rLeft h.castSucc 2; lLeft h 2; rLeft h.castSucc 3; lLeft h 3

/-- Everything sent on the way in has left. -/
def drain : P F PUnit := do
  rLeft0 0; rLeft0 1; rLeft0 2; rLeft0 3; lLeft0 0; lLeft0 1; lLeft0 2; lLeft0 3
  left 0; left 1; left 2; left 3; left 4; left 5
  rLeft 6 0; rLeft 6 1; rLeft 6 2; rLeft 6 3

/-- The handshake with both neighbours. -/
def meet (d : Dev nD) : P F PUnit := do
  semSignalWord (⟨k0_dev1 d, k0_dev1_lt d⟩ : Dev nD) barS 1#32
  semSignalWord (⟨k0_dev2 d, k0_dev2_lt d⟩ : Dev nD) barS 1#32
  semWaitWord barS 2#32

def begin (d : Dev nD) : P F PUnit := do
  rStart0 (nxtW d) 0; rStart0 (nxtW d) 1; rStart0 (nxtW d) 2; rStart0 (nxtW d) 3
  lStart0 (prvW d) 0; lStart0 (prvW d) 1; lStart0 (prvW d) 2; lStart0 (prvW d) 3

def loadX : P F (Vec F S256x128 .f32) :=
  Prog.lift (.load xM (Rect.unit (s := S256x128) ![0, 0] S256x128.size inb_S256x128_S256x128_0_0).toLoadRect (View.loadsAt_vmem h_S256x128))
def loadIx : P F (Vec F S256x1 .i32) :=
  Prog.lift (.load ixM (Rect.unit (s := S256x1) ![0, 0] S256x1.size inb_S256x1_S256x1_0_0).toLoadRect (View.loadsAt_vmem h_S256x1))
def loadRw : P F (Vec F S128x32 .f32) :=
  Prog.lift (.load rwM (Rect.unit (s := S128x32) ![0, 0] S128x32.size inb_S128x32_S128x32_0_0).toLoadRect (View.loadsAt_vmem h_S128x32))
def loadSw : P F (Vec F S128x256 .f32) :=
  Prog.lift (.load swM (Rect.unit (s := S128x256) ![0, 0] S128x256.size inb_S128x256_S128x256_0_0).toLoadRect (View.loadsAt_vmem h_S128x256))
def loadEw : P F (Vec F S2x128x256 .f32) :=
  Prog.lift (.load ewM (Rect.unit (s := S2x128x256) ![0, 0, 0] S2x128x256.size inb_S2x128x256_S2x128x256_0_0_0).toLoadRect (View.loadsAt_vmem h_S2x128x256))
def loadOut : P F (Vec F S256x256 .f32) :=
  Prog.lift (.load outM (Rect.unit (s := S256x256) ![0, 0] S256x256.size inb_S256x256_S256x256_0_0).toLoadRect (View.loadsAt_vmem h_S256x256))
def storeOut (v : FVec F S256x256 .f32) : P F PUnit :=
  Prog.lift (.store outM (Rect.unit (s := S256x256) ![0, 0] S256x256.size inb_S256x256_S256x256_0_0) v Finset.univ (View.stores_vmem_bits_univ h_S256x256 rfl) (.inl rfl))

/-- The body. -/
def prog : P F PUnit := do
  let d ← Prog.lift .deviceId
  meet d
  begin d
  let x ← loadX
  let ix ← loadIx
  let rw' ← loadRw
  let sw ← loadSw
  let ew ← loadEw
  let a0 ← hop0 d x ix (weight x ix rw') (acc0 d x ix rw' sw ew)
  let a1 ← hop d 0 x ix (weight x ix rw') a0
  let a2 ← hop d 1 x ix (weight x ix rw') a1
  let a3 ← hop d 2 x ix (weight x ix rw') a2
  let a4 ← hop d 3 x ix (weight x ix rw') a3
  let a5 ← hop d 4 x ix (weight x ix rw') a4
  let a6 ← hop6 d x ix (weight x ix rw') a5
  let a7 ← hop7 d x ix (weight x ix rw') a6
  let _ ← loadOut
  storeOut a7
  drain

set_option maxRecDepth 65536 in
set_option maxHeartbeats 4000000 in
/-- The printed body is that program. -/
theorem body_eq : cc0_body (F := F) xM (Memref.isWhole_whole _) rwM (Memref.isWhole_whole _) ixM (Memref.isWhole_whole _) ewM (Memref.isWhole_whole _)
    swM (Memref.isWhole_whole _) outM (Memref.isWhole_whole _) rM (Memref.isWhole_whole _) lM (Memref.isWhole_whole _)
    cc0_scratch2 cc0_scratch3 cc0_scratch4 cc0_scratch5 = prog := by
  chain_rfl

end Cert.Moe

end
-- ==== Proof.Ring.lean ====
/-
The two rings: who is next to whom, what is carried on each hop, and where it lands.

The sixteen devices form one cycle. A pair of experts (two 128 × 256 matrices, 256 KB) travels in four pieces of
64 × 256. Forward it makes eight hops, backward seven, so every device sees all fifteen other pairs. A transfer is
named by its ring, its hop and its piece.
-/
module

public import proofs.«01_k».proof.Proof.Shape
public import Idealize.ShloMosaic.Lib.ValueIdxCore

@[expose] public section

noncomputable section

namespace Cert.Moe

open Cert.KernelIdeal Cert.KernelIdeal.Gen

open Idealize.ShloMosaic
open Idealize.ShloMosaic.TcCoe
open Idealize.SL Idealize.SL.Sem

/-! ## The cycle -/

/-- The device after `c` on the cycle, and the one before. -/
def nxt (c : Dev nD) : Dev nD := ![1, 5, 3, 0, 8, 4, 2, 6, 9, 13, 11, 7, 15, 12, 10, 14] c
def prv (c : Dev nD) : Dev nD := ![3, 0, 6, 2, 5, 1, 7, 11, 4, 8, 14, 10, 13, 9, 15, 12] c

theorem prv_nxt (c : Dev nD) : prv (nxt c) = c := by revert c; decide
theorem nxt_prv (c : Dev nD) : nxt (prv c) = c := by revert c; decide
theorem nxt_ne_prv (c : Dev nD) : nxt c ≠ prv c := by revert c; decide

/-- One step along the cycle, as a permutation of the devices. -/
def turn : Dev nD ≃ Dev nD := ⟨nxt, prv, prv_nxt, nxt_prv⟩

theorem dev1_eq (c : Dev nD) : (⟨k0_dev1 c, k0_dev1_lt c⟩ : Dev nD) = prv c := Fin.ext ((k0_dev1_eq c).trans (by revert c; decide))
theorem dev2_eq (c : Dev nD) : (⟨k0_dev2 c, k0_dev2_lt c⟩ : Dev nD) = nxt c := Fin.ext ((k0_dev2_eq c).trans (by revert c; decide))
theorem nxtW_eq (c : Dev nD) : nxtW c = nxt c := Fin.ext ((k0_dev3_eq c).trans (by revert c; decide))
theorem prvW_eq (c : Dev nD) : prvW c = prv c := Fin.ext ((k0_dev7_eq c).trans (by revert c; decide))

/-! ## The transfers -/

/-- A transfer: on the forward ring hop 0 of a piece or hop `h + 1`, and the same on the backward ring. -/
inductive Xfer where
  | r0 (q : Fin 4)
  | r (h : Fin 7) (q : Fin 4)
  | l0 (q : Fin 4)
  | l (h : Fin 6) (q : Fin 4)
  deriving DecidableEq

namespace Xfer

/-- The transfers, case by case. -/
def cases : (Fin 4 ⊕ Fin 7 × Fin 4) ⊕ (Fin 4 ⊕ Fin 6 × Fin 4) ≃ Xfer where
  toFun
    | .inl (.inl q) => r0 q
    | .inl (.inr (h, q)) => r h q
    | .inr (.inl q) => l0 q
    | .inr (.inr (h, q)) => l h q
  invFun
    | r0 q => .inl (.inl q)
    | r h q => .inl (.inr (h, q))
    | l0 q => .inr (.inl q)
    | l h q => .inr (.inr (h, q))
  left_inv := by rintro ((q | ⟨h, q⟩) | (q | ⟨h, q⟩)) <;> rfl
  right_inv := by rintro (q | ⟨h, q⟩ | q | ⟨h, q⟩) <;> rfl

instance : Fintype Xfer := Fintype.ofEquiv _ cases

/-- The forward transfer of a hop and piece, and the backward one. -/
def fwdOf (s : Fin 8) (q : Fin 4) : Xfer := Fin.cases (r0 q) (fun h => r h q) s
def bwdOf (s : Fin 7) (q : Fin 4) : Xfer := Fin.cases (l0 q) (fun h => l h q) s

/-- The transfers by ring, hop and piece. -/
def sides : (Fin 8 × Fin 4) ⊕ (Fin 7 × Fin 4) ≃ Xfer where
  toFun
    | .inl p => fwdOf p.1 p.2
    | .inr p => bwdOf p.1 p.2
  invFun
    | r0 q => .inl (0, q)
    | r h q => .inl (h.succ, q)
    | l0 q => .inr (0, q)
    | l h q => .inr (h.succ, q)
  left_inv := by
    rintro (⟨s, q⟩ | ⟨s, q⟩)
    · induction s using Fin.cases <;> rfl
    · induction s using Fin.cases <;> rfl
  right_inv := by rintro (q | ⟨h, q⟩ | q | ⟨h, q⟩) <;> rfl

/-- Whether it runs forward. -/
def fwd : Xfer → Bool
  | r0 _ => true
  | r _ _ => true
  | l0 _ => false
  | l _ _ => false

/-- Its hop. -/
def hop : Xfer → ℕ
  | r0 _ => 0
  | r h _ => h.val + 1
  | l0 _ => 0
  | l h _ => h.val + 1

/-- Its place in the order in which a device starts its transfers. -/
def ord : Xfer → ℕ
  | r0 q => q.val
  | r h q => if h.val = 6 then 56 + q.val else 8 + 8 * h.val + 2 * q.val
  | l0 q => 4 + q.val
  | l h q => 8 + 8 * h.val + 2 * q.val + 1

/-- Its place in the order in which a device waits for what it receives. -/
def rord : Xfer → ℕ
  | r0 q => 2 * q.val
  | r h q => if h.val = 6 then 56 + q.val else 8 + 8 * h.val + 2 * q.val
  | l0 q => 2 * q.val + 1
  | l h q => 8 + 8 * h.val + 2 * q.val + 1

theorem ord_injective : ∀ t t' : Xfer, t.ord = t'.ord → t = t' := by
  rintro (q | ⟨h, q⟩ | q | ⟨h, q⟩) (q' | ⟨h', q'⟩ | q' | ⟨h', q'⟩) e <;> simp only [ord] at e <;> (try split_ifs at e) <;>
    first
      | (exfalso; omega)
      | (obtain rfl : q = q' := Fin.ext (by omega); rfl)
      | (obtain rfl : q = q' := Fin.ext (by omega); obtain rfl : h = h' := Fin.ext (by omega); rfl)

theorem rord_injective : ∀ t t' : Xfer, t.rord = t'.rord → t = t' := by
  rintro (q | ⟨h, q⟩ | q | ⟨h, q⟩) (q' | ⟨h', q'⟩ | q' | ⟨h', q'⟩) e <;> simp only [rord] at e <;> (try split_ifs at e) <;>
    first
      | (exfalso; omega)
      | (obtain rfl : q = q' := Fin.ext (by omega); rfl)
      | (obtain rfl : q = q' := Fin.ext (by omega); obtain rfl : h = h' := Fin.ext (by omega); rfl)

/-- The device a transfer started on `c` goes to, and the one a transfer landing on `c` came from. -/
def dest (t : Xfer) (c : Dev nD) : Dev nD := if t.fwd then nxt c else prv c
def orig (t : Xfer) (c : Dev nD) : Dev nD := if t.fwd then prv c else nxt c

theorem orig_dest (t : Xfer) (c : Dev nD) : t.orig (t.dest c) = c := by
  unfold orig dest; cases t.fwd
  · exact nxt_prv c
  · exact prv_nxt c
theorem dest_orig (t : Xfer) (c : Dev nD) : t.dest (t.orig c) = c := by
  unfold orig dest; cases t.fwd
  · exact prv_nxt c
  · exact nxt_prv c

/-- What it reads and where it lands. -/
def src : Xfer → Memref sig .tc .vmem S64x256 .f32
  | r0 q => own q
  | r h q => rSlot h.succ.castSucc q
  | l0 q => own q
  | l h q => lSlot h.succ.castSucc q
def dst : Xfer → Memref sig .tc .vmem S64x256 .f32
  | r0 q => rSlot 1 q
  | r h q => rSlot h.succ.succ q
  | l0 q => lSlot 1 q
  | l h q => lSlot h.succ.succ q

/-- The semaphores that say it has left and that it has landed. -/
def sentS : Xfer → DmaSem sig
  | r0 q => rSend 0 q
  | r h q => rSend h.succ q
  | l0 q => lSend 0 q
  | l h q => lSend h.succ q
def gotS : Xfer → DmaSem sig
  | r0 q => rRecv 0 q
  | r h q => rRecv h.succ q
  | l0 q => lRecv 0 q
  | l h q => lRecv h.succ q

/-- What names the semaphore with a given number. -/
def decode (k : ℕ) : Option (Xfer ⊕ Xfer) :=
  if h : 6 ≤ k ∧ k < 10 then some (.inl (r0 ⟨k - 6, by omega⟩))
  else if h : 10 ≤ k ∧ k < 38 then some (.inl (r ⟨(k - 10) / 4, by omega⟩ ⟨(k - 10) % 4, by omega⟩))
  else if h : 38 ≤ k ∧ k < 42 then some (.inr (r0 ⟨k - 38, by omega⟩))
  else if h : 42 ≤ k ∧ k < 70 then some (.inr (r ⟨(k - 42) / 4, by omega⟩ ⟨(k - 42) % 4, by omega⟩))
  else if h : 70 ≤ k ∧ k < 74 then some (.inl (l0 ⟨k - 70, by omega⟩))
  else if h : 74 ≤ k ∧ k < 98 then some (.inl (l ⟨(k - 74) / 4, by omega⟩ ⟨(k - 74) % 4, by omega⟩))
  else if h : 98 ≤ k ∧ k < 102 then some (.inr (l0 ⟨k - 98, by omega⟩))
  else if h : 102 ≤ k ∧ k < 126 then some (.inr (l ⟨(k - 102) / 4, by omega⟩ ⟨(k - 102) % 4, by omega⟩))
  else none

theorem decode_sentS (t : Xfer) : decode t.sentS.val = some (.inl t) := by
  rcases t with q | ⟨h, q⟩ | q | ⟨h, q⟩
  · revert q; decide
  · revert h q; decide
  · revert q; decide
  · revert h q; decide
theorem decode_gotS (t : Xfer) : decode t.gotS.val = some (.inr t) := by
  rcases t with q | ⟨h, q⟩ | q | ⟨h, q⟩
  · revert q; decide
  · revert h q; decide
  · revert q; decide
  · revert h q; decide

end Xfer

/-! ## Where the pieces lie -/

/-- A position in a 64 × 256 piece, seen in the slot it lies in. -/
theorem rSlot_emb (s : Fin 9) (q : Fin 4) (x : S64x256.Idx) (a : Fin 4) :
    ((rSlot s q).view.emb x a).val = ![s.val, q.val / 2, q.val % 2 * 64 + (x 0).val, (x 1).val] a := by
  have h1 : (rSlot s q).view.emb x = (Rect.unit (s := S9x2x128x256) ![s.val, q.val / 2, q.val % 2 * 64, 0] S1x1x64x256.size (inb_rSlot s q)).emb
      (Shape.reshapeEquiv (s := S1x1x64x256) (s' := S64x256) rfl x) := rfl
  have h2 : Shape.reshapeEquiv (s := S1x1x64x256) (s' := S64x256) rfl x = Fin.cons ⟨0, Nat.one_pos⟩ (Fin.cons ⟨0, Nat.one_pos⟩ x) := by
    rw [← Shape.reshapeEquiv_reshapeEquiv (s := S1x1x64x256) (s' := S1x64x256) rfl (s'' := S64x256) rfl x]
    exact (congrArg _ (Shape.reshapeEquiv_cons_one rfl x)).trans (Shape.reshapeEquiv_cons_one rfl _)
  rw [h1, h2, Rect.emb_apply]
  fin_cases a
  · show s.val + 1 * 0 = s.val; omega
  · show q.val / 2 + 1 * 0 = q.val / 2; omega
  · show q.val % 2 * 64 + 1 * (x 0).val = _; rw [Nat.one_mul]; rfl
  · show 0 + 1 * (x 1).val = (x 1).val; omega

theorem lSlot_emb (s : Fin 8) (q : Fin 4) (x : S64x256.Idx) (a : Fin 4) :
    ((lSlot s q).view.emb x a).val = ![s.val, q.val / 2, q.val % 2 * 64 + (x 0).val, (x 1).val] a := by
  have h1 : (lSlot s q).view.emb x = (Rect.unit (s := S8x2x128x256) ![s.val, q.val / 2, q.val % 2 * 64, 0] S1x1x64x256.size (inb_lSlot s q)).emb
      (Shape.reshapeEquiv (s := S1x1x64x256) (s' := S64x256) rfl x) := rfl
  have h2 : Shape.reshapeEquiv (s := S1x1x64x256) (s' := S64x256) rfl x = Fin.cons ⟨0, Nat.one_pos⟩ (Fin.cons ⟨0, Nat.one_pos⟩ x) := by
    rw [← Shape.reshapeEquiv_reshapeEquiv (s := S1x1x64x256) (s' := S1x64x256) rfl (s'' := S64x256) rfl x]
    exact (congrArg _ (Shape.reshapeEquiv_cons_one rfl x)).trans (Shape.reshapeEquiv_cons_one rfl _)
  rw [h1, h2, Rect.emb_apply]
  fin_cases a
  · show s.val + 1 * 0 = s.val; omega
  · show q.val / 2 + 1 * 0 = q.val / 2; omega
  · show q.val % 2 * 64 + 1 * (x 0).val = _; rw [Nat.one_mul]; rfl
  · show 0 + 1 * (x 1).val = (x 1).val; omega

theorem own_emb (q : Fin 4) (x : S64x256.Idx) (a : Fin 3) :
    ((own q).view.emb x a).val = ![q.val / 2, q.val % 2 * 64 + (x 0).val, (x 1).val] a := by
  have h1 : (own q).view.emb x = (Rect.unit (s := S2x128x256) ![q.val / 2, q.val % 2 * 64, 0] S1x64x256.size (inb_own q)).emb
      (Shape.reshapeEquiv (s := S1x64x256) (s' := S64x256) rfl x) := rfl
  have h2 : Shape.reshapeEquiv (s := S1x64x256) (s' := S64x256) rfl x = Fin.cons ⟨0, Nat.one_pos⟩ x := Shape.reshapeEquiv_cons_one rfl x
  rw [h1, h2, Rect.emb_apply]
  fin_cases a
  · show q.val / 2 + 1 * 0 = q.val / 2; omega
  · show q.val % 2 * 64 + 1 * (x 0).val = _; rw [Nat.one_mul]; rfl
  · show 0 + 1 * (x 1).val = (x 1).val; omega

/-- The elements of a piece of a slot. -/
theorem mem_rSlot (s : Fin 9) (q : Fin 4) (i : S9x2x128x256.Idx) :
    i ∈ (rSlot s q).view.set ↔ (i 0).val = s.val ∧ (i 1).val = q.val / 2 ∧ q.val % 2 * 64 ≤ (i 2).val ∧ (i 2).val < q.val % 2 * 64 + 64 := by
  rw [show (rSlot s q).view.set = (Rect.unit (s := S9x2x128x256) ![s.val, q.val / 2, q.val % 2 * 64, 0] S1x1x64x256.size (inb_rSlot s q)).set from by
    exact (View.set_reshape _ _).trans (View.set_slice_whole _ _), Rect.mem_set_unit]
  constructor
  · intro h
    have h0 := h 0; have h1 := h 1; have h2 := h 2
    change s.val ≤ (i 0).val ∧ (i 0).val < s.val + 1 at h0
    change q.val / 2 ≤ (i 1).val ∧ (i 1).val < q.val / 2 + 1 at h1
    change q.val % 2 * 64 ≤ (i 2).val ∧ (i 2).val < q.val % 2 * 64 + 64 at h2
    omega
  · rintro ⟨h0, h1, h2, h3⟩ a
    have h4 : (i 3).val < 256 := (i 3).isLt
    fin_cases a
    · show s.val ≤ (i 0).val ∧ (i 0).val < s.val + 1; omega
    · show q.val / 2 ≤ (i 1).val ∧ (i 1).val < q.val / 2 + 1; omega
    · exact ⟨h2, h3⟩
    · show 0 ≤ (i 3).val ∧ (i 3).val < 0 + 256; omega

theorem mem_lSlot (s : Fin 8) (q : Fin 4) (i : S8x2x128x256.Idx) :
    i ∈ (lSlot s q).view.set ↔ (i 0).val = s.val ∧ (i 1).val = q.val / 2 ∧ q.val % 2 * 64 ≤ (i 2).val ∧ (i 2).val < q.val % 2 * 64 + 64 := by
  rw [show (lSlot s q).view.set = (Rect.unit (s := S8x2x128x256) ![s.val, q.val / 2, q.val % 2 * 64, 0] S1x1x64x256.size (inb_lSlot s q)).set from by
    exact (View.set_reshape _ _).trans (View.set_slice_whole _ _), Rect.mem_set_unit]
  constructor
  · intro h
    have h0 := h 0; have h1 := h 1; have h2 := h 2
    change s.val ≤ (i 0).val ∧ (i 0).val < s.val + 1 at h0
    change q.val / 2 ≤ (i 1).val ∧ (i 1).val < q.val / 2 + 1 at h1
    change q.val % 2 * 64 ≤ (i 2).val ∧ (i 2).val < q.val % 2 * 64 + 64 at h2
    omega
  · rintro ⟨h0, h1, h2, h3⟩ a
    have h4 : (i 3).val < 256 := (i 3).isLt
    fin_cases a
    · show s.val ≤ (i 0).val ∧ (i 0).val < s.val + 1; omega
    · show q.val / 2 ≤ (i 1).val ∧ (i 1).val < q.val / 2 + 1; omega
    · exact ⟨h2, h3⟩
    · show 0 ≤ (i 3).val ∧ (i 3).val < 0 + 256; omega

theorem mem_own (q : Fin 4) (i : S2x128x256.Idx) :
    i ∈ (own q).view.set ↔ (i 0).val = q.val / 2 ∧ q.val % 2 * 64 ≤ (i 1).val ∧ (i 1).val < q.val % 2 * 64 + 64 := by
  rw [show (own q).view.set = (Rect.unit (s := S2x128x256) ![q.val / 2, q.val % 2 * 64, 0] S1x64x256.size (inb_own q)).set from by
    exact (View.set_reshape _ _).trans (View.set_slice_whole _ _), Rect.mem_set_unit]
  constructor
  · intro h
    have h1 := h 0; have h2 := h 1
    change q.val / 2 ≤ (i 0).val ∧ (i 0).val < q.val / 2 + 1 at h1
    change q.val % 2 * 64 ≤ (i 1).val ∧ (i 1).val < q.val % 2 * 64 + 64 at h2
    omega
  · rintro ⟨h1, h2, h3⟩ a
    have h4 : (i 2).val < 256 := (i 2).isLt
    fin_cases a
    · show q.val / 2 ≤ (i 0).val ∧ (i 0).val < q.val / 2 + 1; omega
    · exact ⟨h2, h3⟩
    · show 0 ≤ (i 2).val ∧ (i 2).val < 0 + 256; omega

/-- Different pieces do not meet. -/
theorem rSlot_disjoint {s s' : Fin 9} {q q' : Fin 4} (h : (s, q) ≠ (s', q')) : Disjoint (rSlot s q).view.set (rSlot s' q').view.set := by
  rw [Finset.disjoint_left]
  intro i hi hi'
  obtain ⟨a, b, d, e⟩ := (mem_rSlot s q i).mp hi
  obtain ⟨a', b', d', e'⟩ := (mem_rSlot s' q' i).mp hi'
  exact h (Prod.ext (Fin.ext (a.symm.trans a')) (Fin.ext (by show q.val = q'.val; omega)))
theorem lSlot_disjoint {s s' : Fin 8} {q q' : Fin 4} (h : (s, q) ≠ (s', q')) : Disjoint (lSlot s q).view.set (lSlot s' q').view.set := by
  rw [Finset.disjoint_left]
  intro i hi hi'
  obtain ⟨a, b, d, e⟩ := (mem_lSlot s q i).mp hi
  obtain ⟨a', b', d', e'⟩ := (mem_lSlot s' q' i).mp hi'
  exact h (Prod.ext (Fin.ext (a.symm.trans a')) (Fin.ext (by show q.val = q'.val; omega)))
theorem own_disjoint {q q' : Fin 4} (h : q ≠ q') : Disjoint (own q).view.set (own q').view.set := by
  rw [Finset.disjoint_left]
  intro i hi hi'
  obtain ⟨b, d, e⟩ := (mem_own q i).mp hi
  obtain ⟨b', d', e'⟩ := (mem_own q' i).mp hi'
  exact h (Fin.ext (by omega))

/-- The four pieces of a pair are the pair. -/
theorem own_cover (i : S2x128x256.Idx) : ∃ q : Fin 4, i ∈ (own q).view.set := by
  have h0 : (i 0).val < 2 := (i 0).isLt
  have h1 : (i 1).val < 128 := (i 1).isLt
  refine ⟨⟨2 * (i 0).val + (i 1).val / 64, by omega⟩, (mem_own _ i).mpr ⟨?_, ?_, ?_⟩⟩ <;> simp only <;> omega

/-- The same of a landing slot. -/
theorem rSlot_cover (s : Fin 9) (i : S9x2x128x256.Idx) (h : (i 0).val = s.val) : ∃ q : Fin 4, i ∈ (rSlot s q).view.set := by
  have h0 : (i 1).val < 2 := (i 1).isLt
  have h1 : (i 2).val < 128 := (i 2).isLt
  refine ⟨⟨2 * (i 1).val + (i 2).val / 64, by omega⟩, (mem_rSlot s _ i).mpr ⟨h, ?_, ?_, ?_⟩⟩ <;> simp only <;> omega
theorem lSlot_cover (s : Fin 8) (i : S8x2x128x256.Idx) (h : (i 0).val = s.val) : ∃ q : Fin 4, i ∈ (lSlot s q).view.set := by
  have h0 : (i 1).val < 2 := (i 1).isLt
  have h1 : (i 2).val < 128 := (i 2).isLt
  refine ⟨⟨2 * (i 1).val + (i 2).val / 64, by omega⟩, (mem_lSlot s _ i).mpr ⟨h, ?_, ?_, ?_⟩⟩ <;> simp only <;> omega

end Cert.Moe

end
-- ==== Proof.Protocol.lean ====
/-
What the devices agree on: each semaphore cell's one round, what its credit hands over, and what each device owes.

A cell that says a transfer has left hands its source share back; a cell that says a transfer has landed hands over the
landing piece with the bytes it now holds. A barrier cell hands over the neighbours' landing slots: the device after
hands its forward slots (which this device writes), the device before its backward slots.
-/
module

public import proofs.«01_k».proof.Proof.Ring
public import Idealize.ShloMosaic.Lib.Pipeline.Launch
public import Idealize.ShloMosaic.Lib.Pipeline.Kit

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix3)

variable {F : FTy → Type} [FloatOps F]

/-- The protocol's tokens beside the pipeline's. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- The kernel's cells on one device: the barrier's, and for each transfer the one that says it has left and the one
    that says it has landed. -/
abbrev Cell : Type := Option (Xfer ⊕ Xfer)

abbrev csem : Cell → SemLoc sig
  | none => .reg barS
  | some (.inl t) => .dma t.sentS
  | some (.inr t) => .dma t.gotS

abbrev barCell (c : Dev nD) : GSem nD τ sig := ((c : Thread nD τ), .reg barS)
abbrev sentCell (c : Dev nD) (t : Xfer) : GSem nD τ sig := ((c : Thread nD τ), .dma t.sentS)
abbrev gotCell (c : Dev nD) (t : Xfer) : GSem nD τ sig := ((c : Thread nD τ), .dma t.gotS)
abbrev kcell (ck : Dev nD × Cell) : GSem nD τ sig := ((ck.1 : Thread nD τ), csem ck.2)

/-- Which cell a semaphore is, the barrier's apart. -/
def kind : SemLoc sig → Option (Xfer ⊕ Xfer)
  | .dma s => Xfer.decode s.val
  | .reg _ => none

theorem kind_sent (t : Xfer) : kind (.dma t.sentS) = some (.inl t) := t.decode_sentS
theorem kind_got (t : Xfer) : kind (.dma t.gotS) = some (.inr t) := t.decode_gotS
theorem kind_bar : kind (.reg barS) = none := rfl

theorem csem_injective : Function.Injective csem := by
  rintro (_ | t | t) (_ | t' | t') h
  · rfl
  · cases h
  · cases h
  · cases h
  · have := congrArg kind h; rw [kind_sent, kind_sent] at this; exact this
  · have := congrArg kind h; rw [kind_sent, kind_got] at this; exact this
  · cases h
  · have := congrArg kind h; rw [kind_got, kind_sent] at this; exact this
  · have := congrArg kind h; rw [kind_got, kind_got] at this; exact this

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The credit of one transfer. -/
abbrev N : ℕ := (rSlot 1 0).view.dmaCredit
theorem N_pos : 0 < N := View.dmaCredit_pos _ (by decide)

theorem credit_src (t : Xfer) : t.src.view.dmaCredit = N := by rcases t with q | ⟨h, q⟩ | q | ⟨h, q⟩ <;> rfl
theorem credit_dst (t : Xfer) : t.dst.view.dmaCredit = N := by rcases t with q | ⟨h, q⟩ | q | ⟨h, q⟩ <;> rfl

/-! ## Contents -/

/-- Device `c`'s own pair of experts, as staged. -/
def pairAt (c : Dev nD) : Buf (Elt F) ((c : Thread nD τ).loc cc0_stg3_0) :=
  (win0_3.blk (0 : Fin 1)).view.read (Elt F) (m ((c : Thread nD τ).loc main_arg3))

/-- What the forward landing slots come to hold: slot `s` the pair from `s` devices before. -/
def rBuf (c : Dev nD) : Buf (Elt F) ((c : Thread nD τ).loc cc0_scratch0) :=
  fun (i : S9x2x128x256.Idx) => pairAt m (prv^[(i 0).val] c) (ix3 (i 1) (i 2) (i 3))
/-- And the backward ones: slot `s` the pair from `s` devices after. -/
def lBuf (c : Dev nD) : Buf (Elt F) ((c : Thread nD τ).loc cc0_scratch1) :=
  fun (i : S8x2x128x256.Idx) => pairAt m (nxt^[(i 0).val] c) (ix3 (i 1) (i 2) (i 3))

/-- The contents of the buffer a transfer started on `c` reads, and of the one a transfer landing on `c` wrote. -/
def srcBuf (c : Dev nD) : (t : Xfer) → Buf (Elt F) (t.src.view.loc (c : Thread nD τ))
  | .r0 _ => pairAt m c
  | .r _ _ => rBuf m c
  | .l0 _ => pairAt m c
  | .l _ _ => lBuf m c
def dstBuf (c : Dev nD) : (t : Xfer) → Buf (Elt F) (t.dst.view.loc (c : Thread nD τ))
  | .r0 _ => rBuf m c
  | .r _ _ => rBuf m c
  | .l0 _ => lBuf m c
  | .l _ _ => lBuf m c

omit [FloatOps F] in
theorem rBuf_step (c : Dev nD) {i j : S9x2x128x256.Idx} (h0 : (i 0).val = (j 0).val + 1) (h1 : (i 1).val = (j 1).val)
    (h2 : (i 2).val = (j 2).val) (h3 : (i 3).val = (j 3).val) : rBuf m (nxt c) i = rBuf m c j := by
  show pairAt m (prv^[(i 0).val] (nxt c)) (ix3 (i 1) (i 2) (i 3)) = pairAt m (prv^[(j 0).val] c) (ix3 (j 1) (j 2) (j 3))
  rw [h0, Function.iterate_succ_apply, prv_nxt, show i 1 = j 1 from Fin.ext h1, show i 2 = j 2 from Fin.ext h2, show i 3 = j 3 from Fin.ext h3]
omit [FloatOps F] in
theorem lBuf_step (c : Dev nD) {i j : S8x2x128x256.Idx} (h0 : (i 0).val = (j 0).val + 1) (h1 : (i 1).val = (j 1).val)
    (h2 : (i 2).val = (j 2).val) (h3 : (i 3).val = (j 3).val) : lBuf m (prv c) i = lBuf m c j := by
  show pairAt m (nxt^[(i 0).val] (prv c)) (ix3 (i 1) (i 2) (i 3)) = pairAt m (nxt^[(j 0).val] c) (ix3 (j 1) (j 2) (j 3))
  rw [h0, Function.iterate_succ_apply, nxt_prv, show i 1 = j 1 from Fin.ext h1, show i 2 = j 2 from Fin.ext h2, show i 3 = j 3 from Fin.ext h3]
omit [FloatOps F] in
theorem rBuf_first (c : Dev nD) {i : S9x2x128x256.Idx} {j : S2x128x256.Idx} (h0 : (i 0).val = 1) (h1 : (i 1).val = (j 0).val)
    (h2 : (i 2).val = (j 1).val) (h3 : (i 3).val = (j 2).val) : rBuf m (nxt c) i = pairAt m c j := by
  show pairAt m (prv^[(i 0).val] (nxt c)) (ix3 (i 1) (i 2) (i 3)) = pairAt m c j
  rw [h0, Function.iterate_one, prv_nxt, show i 1 = j 0 from Fin.ext h1, show i 2 = j 1 from Fin.ext h2, show i 3 = j 2 from Fin.ext h3]
  exact congrArg _ (ValueIdx.eq_ix3 j).symm
omit [FloatOps F] in
theorem lBuf_first (c : Dev nD) {i : S8x2x128x256.Idx} {j : S2x128x256.Idx} (h0 : (i 0).val = 1) (h1 : (i 1).val = (j 0).val)
    (h2 : (i 2).val = (j 1).val) (h3 : (i 3).val = (j 2).val) : lBuf m (prv c) i = pairAt m c j := by
  show pairAt m (nxt^[(i 0).val] (prv c)) (ix3 (i 1) (i 2) (i 3)) = pairAt m c j
  rw [h0, Function.iterate_one, nxt_prv, show i 1 = j 0 from Fin.ext h1, show i 2 = j 1 from Fin.ext h2, show i 3 = j 2 from Fin.ext h3]
  exact congrArg _ (ValueIdx.eq_ix3 j).symm

omit [FloatOps F] in
/-- A transfer leaves in its landing piece what the schedule says it holds. -/
theorem landed (c : Dev nD) (t : Xfer) (fd : Buf (Elt F) (t.dst.view.loc (t.dest c : Thread nD τ))) (i : t.dst.view.ty.Idx) (hi : i ∈ t.dst.view.set) :
    t.dst.view.write (Elt F) fd (t.src.view.read (Elt F) (srcBuf m c t)) Finset.univ i = dstBuf m (t.dest c) t i := by
  obtain ⟨x, -, rfl⟩ := Finset.mem_map.mp hi
  refine (View.write_emb_of_mem _ _ (Finset.mem_univ x)).trans ?_
  rcases t with q | ⟨h, q⟩ | q | ⟨h, q⟩
  · refine (rBuf_first m c ((rSlot_emb 1 q x 0).trans rfl) ?_ ?_ ?_).symm
    · exact (rSlot_emb 1 q x 1).trans (own_emb q x 0).symm
    · exact (rSlot_emb 1 q x 2).trans (own_emb q x 1).symm
    · exact (rSlot_emb 1 q x 3).trans (own_emb q x 2).symm
  · refine (rBuf_step m c ?_ ?_ ?_ ?_).symm
    · exact (rSlot_emb h.succ.succ q x 0).trans (congrArg (· + 1) (rSlot_emb h.succ.castSucc q x 0).symm)
    · exact (rSlot_emb h.succ.succ q x 1).trans (rSlot_emb h.succ.castSucc q x 1).symm
    · exact (rSlot_emb h.succ.succ q x 2).trans (rSlot_emb h.succ.castSucc q x 2).symm
    · exact (rSlot_emb h.succ.succ q x 3).trans (rSlot_emb h.succ.castSucc q x 3).symm
  · refine (lBuf_first m c ((lSlot_emb 1 q x 0).trans rfl) ?_ ?_ ?_).symm
    · exact (lSlot_emb 1 q x 1).trans (own_emb q x 0).symm
    · exact (lSlot_emb 1 q x 2).trans (own_emb q x 1).symm
    · exact (lSlot_emb 1 q x 3).trans (own_emb q x 2).symm
  · refine (lBuf_step m c ?_ ?_ ?_ ?_).symm
    · exact (lSlot_emb h.succ.succ q x 0).trans (congrArg (· + 1) (lSlot_emb h.succ.castSucc q x 0).symm)
    · exact (lSlot_emb h.succ.succ q x 1).trans (lSlot_emb h.succ.castSucc q x 1).symm
    · exact (lSlot_emb h.succ.succ q x 2).trans (lSlot_emb h.succ.castSucc q x 2).symm
    · exact (lSlot_emb h.succ.succ q x 3).trans (lSlot_emb h.succ.castSucc q x 3).symm

/-! ## Pieces held -/

/-- A piece of a buffer of device `c`, at a share and contents. -/
def pts (v : Memref sig .tc .vmem S64x256 .f32) (c : Dev nD) (q : PosShare TreeShare) (f : Buf (Elt F) (v.view.loc (c : Thread nD τ))) : sProp 𝕄 :=
  v.view.loc (c : Thread nD τ) ↦[v.view.set]{q} f

omit [FloatOps F] in
instance pts_storable (v : Memref sig .tc .vmem S64x256 .f32) (c : Dev nD) (q : PosShare TreeShare) (f) :
    BI.Storable (upEmb : UEmb _ 𝕄) (pts (F := F) v c q f) := by unfold pts; infer_instance

/-- The share of its source a transfer holds while it is under way. Both rings read the device's own pair, which the
    device itself also loads; a landed slot is read by the next hop and by the device's own load. -/
def srcShare : Xfer → PosShare TreeShare
  | .r0 _ => fullShare.left
  | .r _ _ => fullShare.left
  | .l0 _ => fullShare.right.left
  | .l _ _ => fullShare.left

def sentPay (c : Dev nD) (t : Xfer) : sProp 𝕄 := pts t.src c (srcShare t) (srcBuf m c t)
def gotPay (c : Dev nD) (t : Xfer) : sProp 𝕄 := pts t.dst c fullShare (dstBuf m c t)
/-- A landing piece not written yet. -/
def room (c : Dev nD) (t : Xfer) : sProp 𝕄 := iprop(∃ f, pts (F := F) t.dst c fullShare f)
/-- What a neighbour's signal hands over: the pieces the transfers towards it land in. -/
def barPay (c : Dev nD) : Bool → sProp 𝕄
  | true => bigSep Finset.univ fun p : Fin 8 × Fin 4 => room (F := F) (nxt c) (Xfer.fwdOf p.1 p.2)
  | false => bigSep Finset.univ fun p : Fin 7 × Fin 4 => room (F := F) (prv c) (Xfer.bwdOf p.1 p.2)

omit [FloatOps F] in
/-- A family over the transfers is one over the forward ones and one over the backward ones. -/
theorem bigSep_sides (Φ : Xfer → sProp 𝕄) : bigSep Finset.univ Φ
    = iprop((bigSep Finset.univ fun p : Fin 8 × Fin 4 => Φ (Xfer.fwdOf p.1 p.2)) ∗ bigSep Finset.univ fun p : Fin 7 × Fin 4 => Φ (Xfer.bwdOf p.1 p.2)) := by
  rw [bigSep_univ_equiv Xfer.sides, bigSep_univ_sum]; rfl

theorem dest_fwd (s : Fin 8) (q : Fin 4) (c : Dev nD) : (Xfer.fwdOf s q).dest c = nxt c := by induction s using Fin.cases <;> rfl
theorem dest_bwd (s : Fin 7) (q : Fin 4) (c : Dev nD) : (Xfer.bwdOf s q).dest c = prv c := by induction s using Fin.cases <;> rfl

omit [FloatOps F] in
instance sentPay_storable (c : Dev nD) (t : Xfer) : BI.Storable (upEmb : UEmb _ 𝕄) (sentPay m c t) := by unfold sentPay; infer_instance
omit [FloatOps F] in
instance gotPay_storable (c : Dev nD) (t : Xfer) : BI.Storable (upEmb : UEmb _ 𝕄) (gotPay m c t) := by unfold gotPay; infer_instance
omit [FloatOps F] in
instance room_storable (c : Dev nD) (t : Xfer) : BI.Storable (upEmb : UEmb _ 𝕄) (room (F := F) c t) := by unfold room; infer_instance
omit [FloatOps F] in
instance barPay_storable (c : Dev nD) (b : Bool) : BI.Storable (upEmb : UEmb _ 𝕄) (barPay (F := F) c b) := by cases b <;> (unfold barPay; infer_instance)

/-! ## The schedule -/

/-- One round, round 0: two duties of one unit at a barrier cell (`true` paid by the device after, `false` by the one
    before), one duty of a transfer's credit at every other cell. -/
def sched : Rounds.Schedule (GSem nD τ sig) Bool 𝕄 where
  duties g r :=
    if r = 0 ∧ g.1.2 = .tc then
      match kind g.2 with
      | some _ => {true}
      | none => if g.2 = .reg barS then Finset.univ else ∅
    else ∅
  unitless _ := False
  amount g _ _ := if g.2 = .reg barS then 1 else N
  payload g _ d :=
    match kind g.2 with
    | some (.inl t) => sentPay m g.1.1 t
    | some (.inr t) => gotPay m g.1.1 t
    | none => if g.2 = .reg barS then barPay g.1.1 d else iprop(emp)
  amount_pos g _ _ _ := by
    by_cases h : g.2 = .reg barS
    · rw [if_pos h]; exact Nat.one_pos
    · rw [if_neg h]; exact N_pos

instance sched_payload_storable (g : GSem nD τ sig) (r : ℕ) (d : Bool) : BI.Storable (upEmb : UEmb _ 𝕄) ((sched (F := F) m).payload g r d) := by
  dsimp only [sched]
  split
  · infer_instance
  · infer_instance
  · split <;> infer_instance

section Sched
variable (c : Dev nD) (t : Xfer)

theorem sent_ne_bar : (SemLoc.dma t.sentS : SemLoc sig) ≠ .reg barS := fun h => by cases h
theorem got_ne_bar : (SemLoc.dma t.gotS : SemLoc sig) ≠ .reg barS := fun h => by cases h

omit [FloatOps F] in
theorem duties_bar : (sched (F := F) m).duties (barCell c) 0 = Finset.univ := by
  dsimp only [sched]; rw [if_pos ⟨rfl, rfl⟩, kind_bar]; exact if_pos rfl
omit [FloatOps F] in
theorem duties_sent : (sched (F := F) m).duties (sentCell c t) 0 = {true} := by
  dsimp only [sched]; rw [if_pos ⟨rfl, rfl⟩, kind_sent]
omit [FloatOps F] in
theorem duties_got : (sched (F := F) m).duties (gotCell c t) 0 = {true} := by
  dsimp only [sched]; rw [if_pos ⟨rfl, rfl⟩, kind_got]
omit [FloatOps F] in
theorem duties_later (g : GSem nD τ sig) : ∀ r, 1 ≤ r → (sched (F := F) m).duties g r = ∅ :=
  fun r hr => by dsimp only [sched]; rw [if_neg fun h => by omega]

omit [FloatOps F] in
theorem amount_bar (d : Bool) : (sched (F := F) m).amount (barCell c) 0 d = 1 := by dsimp only [sched]; exact if_pos rfl
omit [FloatOps F] in
theorem amount_sent (d : Bool) : (sched (F := F) m).amount (sentCell c t) 0 d = N := by dsimp only [sched]; exact if_neg (sent_ne_bar t)
omit [FloatOps F] in
theorem amount_got (d : Bool) : (sched (F := F) m).amount (gotCell c t) 0 d = N := by dsimp only [sched]; exact if_neg (got_ne_bar t)

omit [FloatOps F] in
theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
omit [FloatOps F] in
theorem expect_sent : (sched (F := F) m).expect (sentCell c t) 0 = N := by
  unfold Schedule.expect Schedule.amountOf; rw [duties_sent, Finset.sum_singleton, amount_sent]
omit [FloatOps F] in
theorem expect_got : (sched (F := F) m).expect (gotCell c t) 0 = N := by
  unfold Schedule.expect Schedule.amountOf; rw [duties_got, Finset.sum_singleton, amount_got]

omit [FloatOps F] in
theorem payload_bar (d : Bool) : (sched (F := F) m).payload (barCell c) 0 d = barPay c d := by
  dsimp only [sched]; rw [kind_bar]; exact if_pos rfl
omit [FloatOps F] in
theorem payload_sent (d : Bool) : (sched (F := F) m).payload (sentCell c t) 0 d = sentPay m c t := by
  dsimp only [sched]; rw [kind_sent]
omit [FloatOps F] in
theorem payload_got (d : Bool) : (sched (F := F) m).payload (gotCell c t) 0 d = gotPay m c t := by
  dsimp only [sched]; rw [kind_got]

omit [FloatOps F] in
/-- The barrier's round hands over every landing piece this device writes. -/
theorem rest_bar : bigSep ((sched (F := F) m).duties (barCell c) 0 \ ∅) (fun d => (sched (F := F) m).payload (barCell c) 0 d)
    = bigSep Finset.univ fun t : Xfer => room (F := F) (t.dest c) t := by
  rw [Finset.sdiff_empty, duties_bar, bigSep_univ_eq_bigSepL [true, false] (by decide) (by decide), bigSepL_cons_cons, bigSepL_singleton,
    payload_bar, payload_bar, bigSep_sides]
  simp only [dest_fwd, dest_bwd]
  rfl
omit [FloatOps F] in
theorem rest_sent : bigSep ((sched (F := F) m).duties (sentCell c t) 0 \ ∅) (fun d => (sched (F := F) m).payload (sentCell c t) 0 d) = sentPay m c t := by
  rw [Finset.sdiff_empty, duties_sent, bigSep_singleton, payload_sent]
omit [FloatOps F] in
theorem rest_got : bigSep ((sched (F := F) m).duties (gotCell c t) 0 \ ∅) (fun d => (sched (F := F) m).payload (gotCell c t) 0 d) = gotPay m c t := by
  rw [Finset.sdiff_empty, duties_got, bigSep_singleton, payload_got]

end Sched

/-! ## Families over the transfers, along an order -/

/-- `Φ` over the transfers at places `n` and later; and at places before `n`. -/
def from' (key : Xfer → ℕ) (n : ℕ) (Φ : Xfer → sProp 𝕄) : sProp 𝕄 := bigSep (Finset.univ.filter fun t => n ≤ key t) Φ
def upto (key : Xfer → ℕ) (n : ℕ) (Φ : Xfer → sProp 𝕄) : sProp 𝕄 := bigSep (Finset.univ.filter fun t => key t < n) Φ

theorem ge_step {key : Xfer → ℕ} (inj : ∀ t t', key t = key t' → t = t') {t : Xfer} {n : ℕ} (h : key t = n) :
    (Finset.univ.filter fun u => n ≤ key u) = insert t (Finset.univ.filter fun u => n + 1 ≤ key u) := by
  ext u
  simp only [Finset.mem_filter, Finset.mem_univ, true_and, Finset.mem_insert]
  constructor
  · intro hu
    by_cases e : key u = n
    · exact .inl (inj _ _ (e.trans h.symm))
    · exact .inr (by omega)
  · rintro (rfl | hu) <;> omega
theorem lt_step {key : Xfer → ℕ} (inj : ∀ t t', key t = key t' → t = t') {t : Xfer} {n : ℕ} (h : key t = n) :
    (Finset.univ.filter fun u => key u < n + 1) = insert t (Finset.univ.filter fun u => key u < n) := by
  ext u
  simp only [Finset.mem_filter, Finset.mem_univ, true_and, Finset.mem_insert]
  constructor
  · intro hu
    by_cases e : key u = n
    · exact .inl (inj _ _ (e.trans h.symm))
    · exact .inr (by omega)
  · rintro (rfl | hu) <;> omega
theorem not_mem_ge {key : Xfer → ℕ} {t : Xfer} {n : ℕ} (h : key t = n) : t ∉ Finset.univ.filter fun u => n + 1 ≤ key u := by
  simp only [Finset.mem_filter, Finset.mem_univ, true_and]; omega
theorem not_mem_lt {key : Xfer → ℕ} {t : Xfer} {n : ℕ} (h : key t = n) : t ∉ Finset.univ.filter fun u => key u < n := by
  simp only [Finset.mem_filter, Finset.mem_univ, true_and]; omega

omit [FloatOps F] in
theorem from'_step {key : Xfer → ℕ} (inj : ∀ t t', key t = key t' → t = t') {t : Xfer} {n : ℕ} (h : key t = n) (Φ : Xfer → sProp 𝕄) :
    from' key n Φ = iprop(Φ t ∗ from' key (n + 1) Φ) := by
  unfold from'; rw [ge_step inj h, bigSep_insert (not_mem_ge h)]; rfl
omit [FloatOps F] in
theorem upto_step {key : Xfer → ℕ} (inj : ∀ t t', key t = key t' → t = t') {t : Xfer} {n : ℕ} (h : key t = n) (Φ : Xfer → sProp 𝕄) :
    upto key (n + 1) Φ = iprop(Φ t ∗ upto key n Φ) := by
  unfold upto; rw [lt_step inj h, bigSep_insert (not_mem_lt h)]; rfl

theorem ord_lt (t : Xfer) : t.ord < 60 := by
  rcases t with q | ⟨h, q⟩ | q | ⟨h, q⟩ <;> simp only [Xfer.ord] <;> (try split_ifs) <;> omega
theorem rord_lt (t : Xfer) : t.rord < 60 := by
  rcases t with q | ⟨h, q⟩ | q | ⟨h, q⟩ <;> simp only [Xfer.rord] <;> (try split_ifs) <;> omega

omit [FloatOps F] in
theorem from'_zero (key : Xfer → ℕ) (Φ : Xfer → sProp 𝕄) : from' key 0 Φ = bigSep Finset.univ Φ := by
  unfold from'; rw [Finset.filter_true_of_mem fun t _ => Nat.zero_le _]
omit [FloatOps F] in
theorem upto_zero (key : Xfer → ℕ) (Φ : Xfer → sProp 𝕄) : upto key 0 Φ = iprop(emp) := by
  unfold upto; rw [Finset.filter_false_of_mem fun t _ => Nat.not_lt_zero _]; exact bigSep_empty
omit [FloatOps F] in
theorem from'_all {key : Xfer → ℕ} (h : ∀ t, key t < 60) (Φ : Xfer → sProp 𝕄) : from' key 60 Φ = iprop(emp) := by
  unfold from'; rw [Finset.filter_false_of_mem fun t _ => Nat.not_le.mpr (h t)]; exact bigSep_empty
omit [FloatOps F] in
theorem upto_all {key : Xfer → ℕ} (h : ∀ t, key t < 60) (Φ : Xfer → sProp 𝕄) : upto key 60 Φ = bigSep Finset.univ Φ := by
  unfold upto; rw [Finset.filter_true_of_mem fun t _ => h t]

/-! ## What a device owes, and the levels -/

/-- The landings a device still owes when it has started the transfers before place `n`. -/
def owing (c : Dev nD) (n : ℕ) : CellTallies nD τ sig Unit :=
  ∑ t ∈ Finset.univ.filter (fun t : Xfer => n ≤ t.ord), tallyAt (gotCell (t.dest c) t) () N

theorem owing_step (c : Dev nD) {t : Xfer} {n : ℕ} (h : t.ord = n) : owing c n = owing c (n + 1) + tallyAt (gotCell (t.dest c) t) () N := by
  unfold owing; rw [ge_step Xfer.ord_injective h, Finset.sum_insert (not_mem_ge h), add_comm]
theorem owing_all (c : Dev nD) : owing c 60 = 0 := by
  unfold owing; rw [Finset.filter_false_of_mem fun t _ => Nat.not_le.mpr (ord_lt t), Finset.sum_empty]

/-- At launch: every landing, and a signal to each neighbour. -/
def owed₁ (c : Dev nD) : CellTallies nD τ sig Unit := owing c 0 + tallyAt (barCell (nxt c)) () 1
def owed₀ (c : Dev nD) : CellTallies nD τ sig Unit := owed₁ c + tallyAt (barCell (prv c)) () 1

def L (g : GSem nD τ sig) : Finset Unit := if g.1.2 = .tc then {()} else ∅
/-- Landings by hop, above the barrier, above everything else. -/
def lv (g : GSem nD τ sig) (_ : Unit) : ℕ :=
  match kind g.2 with
  | some (.inr t) => 2 + t.hop
  | some (.inl _) => 0
  | none => if g.2 = .reg barS then 1 else 0

theorem L_of_ne (g : GSem nD τ sig) (h : g.1.2 ≠ .tc) : L g = ∅ := if_neg h
theorem L_tc (c : Dev nD) (sm : SemLoc sig) : L ((c : Thread nD τ), sm) = {()} := if_pos rfl
theorem lv_got (c : Dev nD) (t : Xfer) : lv (gotCell c t) () = 2 + t.hop := by unfold lv; rw [kind_got]
theorem lv_sent (c : Dev nD) (t : Xfer) : lv (sentCell c t) () = 0 := by unfold lv; rw [kind_sent]
theorem lv_bar (c : Dev nD) : lv (barCell c) () = 1 := by unfold lv; rw [kind_bar]; exact if_pos rfl

theorem owing_pos {c : Dev nD} {n : ℕ} {g : GSem nD τ sig} {u : Unit} (h : 0 < owing c n g u) :
    ∃ t : Xfer, n ≤ t.ord ∧ g = gotCell (t.dest c) t := by
  unfold owing at h
  rw [Finset.sum_apply, Finsupp.finsetSum_apply] at h
  obtain ⟨t, ht, hp⟩ := Finset.exists_ne_zero_of_sum_ne_zero (Nat.ne_of_gt h)
  refine ⟨t, (Finset.mem_filter.mp ht).2, ?_⟩
  rw [tallyAt_apply] at hp
  by_contra hn
  exact hp (if_neg fun h' => hn h'.1)
theorem owed₀_pos {c : Dev nD} {g : GSem nD τ sig} {u : Unit} (h : 0 < owed₀ c g u) :
    (∃ t : Xfer, g = gotCell (t.dest c) t) ∨ g = barCell (nxt c) ∨ g = barCell (prv c) := by
  unfold owed₀ owed₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  obtain ⟨t, -, ht⟩ := owing_pos (c := c) (n := 0) (g := g) (u := u) (by omega)
  exact hn.1 ⟨t, ht⟩

omit [FloatOps F] in
/-- A wait may be made while everything owed lands at a higher level. -/
theorem mayWait_below (c : Dev nD) (sm : SemLoc sig) (n : ℕ) (h : ∀ t : Xfer, n ≤ t.ord → lv ((c : Thread nD τ), sm) () < 2 + t.hop) :
    (levAts L lv : sProp 𝕄) ⊢ MayWait (c : Thread nD τ) sm () (owing c n) :=
  MayOwe.of_cut (L := L) (lev := lv) (lv ((c : Thread nD τ), sm) ()) (fun p hp => by rw [Finset.mem_singleton.mp hp, L_tc]; exact Finset.mem_singleton_self _)
    (fun g u hg => by obtain ⟨t, -, rfl⟩ := owing_pos hg; exact Finset.mem_singleton_self _)
    (fun p hp => by rw [Finset.mem_singleton.mp hp])
    (fun g u hg => by obtain ⟨t, ht, rfl⟩ := owing_pos hg; cases u; rw [lv_got]; exact h t ht)

omit [FloatOps F] in
/-- The pipeline's own waits come before everything. -/
theorem mayWait_stage (c : Dev nD) (q : DmaSem sig) (hq : Xfer.decode q.val = none) (O : CellTallies nD τ sig Unit) (hO : O = owed₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owed₀_pos hg with ⟨t, rfl⟩ | rfl | rfl <;> exact Finset.mem_singleton_self _)
      (fun p hp => by
        rw [Finset.mem_singleton.mp hp]
        show lv ((c : Thread nD τ), .dma q) () ≤ 0
        unfold lv; rw [show kind (.dma q) = none from hq]; rw [if_neg (fun h => by cases h)])
      (fun g u hg => by
        cases u
        rcases owed₀_pos hg with ⟨t, rfl⟩ | rfl | rfl
        · rw [lv_got]; omega
        · rw [lv_bar]; exact Nat.one_pos
        · rw [lv_bar]; exact Nat.one_pos)
  · rw [MayWait_zero]; iintro -; iempintro

end Cert.Moe

end
-- ==== Proof.Steps.lean ====
/-
One step of the protocol at a time: what a device holds between two statements, and what each kind of statement does
to it.

`St c n r` is what device `c` holds once it has started the transfers before place `n` and received those before place
`r`: what it needs to start the others, the credit of those that have not left yet, the credit of those that have not
landed yet, and the landed pieces (less what the next hop is reading).
-/
module

public import proofs.«01_k».proof.Proof.Protocol

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The body's weakest precondition on device `c`. -/
abbrev wpB (c : Dev nD) {α : Type} (p : P F α) (Q : α → sProp 𝕄) : sProp 𝕄 :=
  wp frame (wpE (defs₀ (F := F)) 𝒱₀ (c : Thread nD τ) none) Set.univ p Q

theorem seq {c : Dev nD} {α : Type} {Pre R : sProp 𝕄} {p : P F PUnit} {k : PUnit → P F α} {Q : α → sProp 𝕄}
    (h₁ : Pre ⊢ wpB c p fun _ => R) (h₂ : R ⊢ wpB c (k ⟨⟩) Q) : Pre ⊢ wpB c (p >>= k) Q := by
  unfold wpB; rw [wp_bind]
  exact h₁.trans (wp_mono _ _ _ fun _ => h₂)

theorem seqv {c : Dev nD} {α β : Type} {Pre R : sProp 𝕄} {p : P F β} {k : β → P F α} {Q : α → sProp 𝕄} {v : β}
    (h₁ : Pre ⊢ wpB c p fun b => iprop(⌜b = v⌝ ∗ R)) (h₂ : R ⊢ wpB c (k v) Q) : Pre ⊢ wpB c (p >>= k) Q := by
  unfold wpB; rw [wp_bind]
  refine h₁.trans (wp_mono _ _ _ fun b => ?_)
  iintro ⟨%hb, HR⟩
  subst hb
  iapply h₂; iexact HR

theorem framed {c : Dev nD} {α : Type} {Pre A : sProp 𝕄} {p : P F α} {Q : α → sProp 𝕄} (h : Pre ⊢ wpB c p Q) :
    iprop(Pre ∗ A) ⊢ wpB c p fun a => iprop(Q a ∗ A) :=
  (sep_mono_left h).trans (wp_frame_r _ _ _)

/-! ## What is known to all -/

variable (K : Dev nD × Cell → ℕ)

/-- Every cell's invariant and that it has reached round 0; and the levels. -/
def known : sProp 𝕄 :=
  iprop((bigSep Finset.univ fun ck : Dev nD × Cell => cellInv ER (sched m) (K ck) (kcell ck))
    ∗ (bigSep Finset.univ fun ck : Dev nD × Cell => reached ER (kcell ck) 0) ∗ levAts L lv)

instance known_persistent : BI.Persistent (known m K) := by unfold known; infer_instance

omit [FloatOps F] in
theorem inv_at (ck : Dev nD × Cell) :
    (bigSep Finset.univ fun ck : Dev nD × Cell => (cellInv ER (sched m) (K ck) (kcell ck) : sProp 𝕄)) ⊢ cellInv ER (sched m) (K ck) (kcell ck) :=
  bigSep_elim (Finset.mem_univ ck)
omit [FloatOps F] in
theorem reached_at (ck : Dev nD × Cell) :
    (bigSep Finset.univ fun ck : Dev nD × Cell => (reached ER (kcell ck) 0 : sProp 𝕄)) ⊢ reached ER (kcell ck) 0 :=
  bigSep_elim (Finset.mem_univ ck)
omit [FloatOps F] in
theorem known_inv (ck : Dev nD × Cell) : known m K ⊢ cellInv ER (sched m) (K ck) (kcell ck) := by
  unfold known; iintro ⟨H, -, -⟩; iapply (inv_at m K ck); iexact H
omit [FloatOps F] in
theorem known_reached (ck : Dev nD × Cell) : known m K ⊢ reached ER (kcell ck) 0 := by
  unfold known; iintro ⟨-, H, -⟩; iapply (reached_at (F := F) ck); iexact H
/-! ## What a device holds -/

/-- The tokens of the two duties a transfer pays. -/
def toks (c : Dev nD) (t : Xfer) : sProp 𝕄 :=
  iprop(dutyTok ER (sentCell c t) 0 true ∗ dutyTok ER (gotCell (t.dest c) t) 0 true)

/-- The source of a transfer that starts before anything has landed, and of one that does not. -/
def first (c : Dev nD) : Xfer → sProp 𝕄
  | .r0 q => sentPay m c (.r0 q)
  | .r _ _ => iprop(emp)
  | .l0 q => sentPay m c (.l0 q)
  | .l _ _ => iprop(emp)
def onward (c : Dev nD) : Xfer → sProp 𝕄
  | .r0 _ => iprop(emp)
  | .r h q => sentPay m c (.r h q)
  | .l0 _ => iprop(emp)
  | .l h q => sentPay m c (.l h q)

omit [FloatOps F] in
theorem first_onward (c : Dev nD) (t : Xfer) : iprop(first m c t ∗ onward m c t) ⊢ sentPay m c t := by
  rcases t with q | ⟨h, q⟩ | q | ⟨h, q⟩ <;> unfold first onward <;> iintro ⟨H1, H2⟩ <;> iassumption

/-- What starting a transfer needs. -/
def toStart (c : Dev nD) (t : Xfer) : sProp 𝕄 := iprop(toks c t ∗ room (F := F) (t.dest c) t ∗ first m c t)

/-- The share of a landed piece that stays for the device's own load. -/
def keepShare : Xfer → PosShare TreeShare
  | .r0 _ => fullShare.right
  | .r h _ => if h.val = 6 then fullShare else fullShare.right
  | .l0 _ => fullShare.right
  | .l h _ => if h.val = 5 then fullShare else fullShare.right
def keep (c : Dev nD) (t : Xfer) : sProp 𝕄 := pts t.dst c (keepShare t) (dstBuf m c t)

def toGet (c : Dev nD) (t : Xfer) : sProp 𝕄 := iprop(cred (tallyAt (gotCell c t) () N) ∗ atPos ER (gotCell c t) 0 ∅ 0)
def gotten (c : Dev nD) (t : Xfer) : sProp 𝕄 := iprop(keep m c t ∗ atPos ER (gotCell c t) 1 ∅ 0)
def sending (c : Dev nD) (t : Xfer) : sProp 𝕄 := cred (tallyAt (sentCell c t) () N)

def St (c : Dev nD) (n r : ℕ) : sProp 𝕄 :=
  iprop(known m K ∗ (∃ W, owes (c : Thread nD τ) (owing c n) W)
    ∗ from' Xfer.ord n (toStart m c) ∗ upto Xfer.ord n (sending (F := F) c)
    ∗ from' Xfer.rord r (toGet (F := F) c) ∗ upto Xfer.rord r (gotten m c))

/-! ## A transfer started -/

theorem Xfer.srcExact (t : Xfer) : t.src.view.WordExact := by
  rcases t with q | ⟨h, q⟩ | q | ⟨h, q⟩
  · exact ownExact q
  · exact rExact _ q
  · exact ownExact q
  · exact lExact _ q
theorem Xfer.dstExact (t : Xfer) : t.dst.view.WordExact := by
  rcases t with q | ⟨h, q⟩ | q | ⟨h, q⟩
  · exact rExact _ q
  · exact rExact _ q
  · exact lExact _ q
  · exact lExact _ q
theorem dst_shared (t : Xfer) (n : Dev nD) : (t.dst : Memref sig (Dev.tc n : Thread nD τ).2.kind .vmem S64x256 .f32).view.ref.isScScratch = false := by
  rcases t with q | ⟨h, q⟩ | q | ⟨h, q⟩ <;> rfl

/-- The statement that starts a transfer, towards device `n`. -/
def startP (n : Dev nD) (t : Xfer) : P F PUnit :=
  .op (.enqueueDma t.src (.remote (Dev.tc n) t.dst (.dma t.sentS) (dst_shared t n)) (.dma t.gotS) t.srcExact t.dstExact ⟨⟨rfl, Or.inl rfl⟩, trivial⟩) .ret

theorem rStart0_eq (n : Dev nD) (q : Fin 4) : (rStart0 n q : P F PUnit) = startP n (.r0 q) := rfl
theorem lStart0_eq (n : Dev nD) (q : Fin 4) : (lStart0 n q : P F PUnit) = startP n (.l0 q) := rfl
theorem rStart_eq (n : Dev nD) (h : Fin 7) (q : Fin 4) : (rStart n h q : P F PUnit) = startP n (.r h q) := rfl
theorem lStart_eq (n : Dev nD) (h : Fin 6) (q : Fin 4) : (lStart n h q : P F PUnit) = startP n (.l h q) := rfl

theorem start_spec (c : Dev nD) (t : Xfer) {n r : ℕ} (hn : t.ord = n) :
    iprop(St m K c n r ∗ onward m c t) ⊢ wpB c (startP (t.dest c) t) fun _ => St m K c (n + 1) r := by
  unfold St startP
  rw [from'_step Xfer.ord_injective hn, upto_step Xfer.ord_injective hn]
  unfold toStart toks room
  iintro ⟨⟨#HK, ⟨%W, HO⟩, ⟨⟨⟨HtS, HtG⟩, ⟨%fd, Hroom⟩, Hfirst⟩, Htodo⟩, Hsending, Hrest⟩, Hon⟩
  ihave Hsrc := (first_onward m c t) $$ [Hfirst Hon]
  · isplitl [Hfirst] <;> iassumption
  unfold sentPay pts
  iapply (Rounds.wp_send_pointsTo 𝒱₀ ER (sched m) (c : Thread nD τ) none (κ₁ := K (c, some (.inl t))) (κ₂ := K (t.dest c, some (.inr t)))
      (c' := (t.dest c : Thread nD τ)) (src := t.src) (dst := t.dst) (sS := .dma t.sentS) (sem := .dma t.gotS)
      (r₁ := 0) (r₂ := 0) (d₁ := true) (d₂ := true) (fd := fd)
      (by rw [duties_sent]; exact Finset.mem_singleton_self _) (by rw [duties_got]; exact Finset.mem_singleton_self _)
      () () N (credit_dst t) (amount_sent m c t true) (amount_got m (t.dest c) t true) (owing c (n + 1)) (owing_step c hn) (W := W)
      (by rw [payload_sent]; exact BI.Entails.refl _)
      (by rw [payload_got]; unfold gotPay pts; exact Entails.of_eq (pointsTo_congr fun i hi => landed m c t fd i hi)))
    $$ [Hsrc Hroom HO HtS HtG]
  · isplitr; · iapply (known_inv m K (c, some (.inl t))); iexact HK
    isplitr; · iapply (known_inv m K (t.dest c, some (.inr t))); iexact HK
    isplitl [Hsrc]; · iexact Hsrc
    isplitl [Hroom]; · iexact Hroom
    isplitl [HO]; · iexact HO
    isplitl [HtS]; · iexact HtS
    isplitr; · iapply (known_reached m K (c, some (.inl t))); iexact HK
    isplitl [HtG]; · iexact HtG
    iapply (known_reached m K (t.dest c, some (.inr t))); iexact HK
  iintro ⟨Hc, HO⟩
  rw [wp_ret]; imodintro
  isplitr; · iexact HK
  isplitl [HO]; · iexists W; iexact HO
  isplitl [Htodo]; · iexact Htodo
  isplitl [Hc Hsending]
  · isplitl [Hc]; · unfold sending; iexact Hc
    iexact Hsending
  iexact Hrest

/-! ## A landing waited for -/

/-- The statement that waits for a transfer to have landed. -/
def gotP (t : Xfer) : P F PUnit := .op (.waitDma2 t.gotS t.src t.dst t.srcExact t.dstExact) .ret

theorem rGot0_eq (q : Fin 4) : (rGot0 q : P F PUnit) = gotP (.r0 q) := rfl
theorem lGot0_eq (q : Fin 4) : (lGot0 q : P F PUnit) = gotP (.l0 q) := rfl
theorem rGot_eq (h : Fin 7) (q : Fin 4) : (rGot h q : P F PUnit) = gotP (.r h q) := rfl
theorem lGot_eq (h : Fin 6) (q : Fin 4) : (lGot h q : P F PUnit) = gotP (.l h q) := rfl

theorem got_below (c : Dev nD) (t : Xfer) (n : ℕ) (hl : ∀ u : Xfer, n ≤ u.ord → t.hop < u.hop) :
    ∀ u : Xfer, n ≤ u.ord → lv ((c : Thread nD τ), .dma t.gotS) () < 2 + u.hop := fun u hu => by
  rw [lv_got]; exact Nat.add_lt_add_left (hl u hu) 2
omit [FloatOps F] in
/-- A landing may be waited for while everything owed is of a later hop. -/
theorem mayWait_got (c : Dev nD) (t : Xfer) (n : ℕ) (hl : ∀ u : Xfer, n ≤ u.ord → t.hop < u.hop) :
    (levAts L lv : sProp 𝕄) ⊢ MayWait (c : Thread nD τ) (.dma t.gotS) () (owing c n) :=
  mayWait_below (F := F) c (.dma t.gotS) n (got_below c t n hl)

omit [FloatOps F] in
theorem known_wait (c : Dev nD) (t : Xfer) (n : ℕ) (hl : ∀ u : Xfer, n ≤ u.ord → t.hop < u.hop) :
    known m K ⊢ MayWait (c : Thread nD τ) (.dma t.gotS) () (owing c n) := by
  unfold known; iintro ⟨-, -, H⟩; iapply (mayWait_got (F := F) c t n hl); iexact H

omit [FloatOps F] in
theorem cred_of (g : GSem nD τ sig) {k : ℕ} (h : k = N) : (cred (tallyAt g () N) : sProp 𝕄) ⊢ cred (tallyAt g () k) := by rw [h]

theorem got_spec (c : Dev nD) (t : Xfer) {n r : ℕ} (hr : t.rord = r) (hl : ∀ u : Xfer, n ≤ u.ord → t.hop < u.hop)
    {A : sProp 𝕄} (hA : gotPay m c t ⊢ iprop(keep m c t ∗ A)) :
    St m K c n r ⊢ wpB c (gotP t) fun _ => iprop(St m K c n (r + 1) ∗ A) := by
  have hw : known m K ⊢ MayWait (c : Thread nD τ) (.dma t.gotS) () (owing c n) := known_wait m K c t n hl
  unfold St gotP
  rw [from'_step Xfer.rord_injective hr, upto_step Xfer.rord_injective hr]
  unfold toGet gotten
  iintro ⟨#HK, ⟨%W, HO⟩, Htodo, Hsending, ⟨⟨Hc, Hat⟩, Hget⟩, Hgot⟩
  iapply (Rounds.wp_wait_rest_token 𝒱₀ ER (sched m) (c : Thread nD τ) none (κ := K (c, some (.inr t)))
      (wpE_waitDma2_eq 𝒱₀ (c : Thread nD τ) none Set.univ) (Set.mem_univ _) () (O := owing c n) (W := W) (R := 0) (m := 0) (T := ∅)
      ((Nat.zero_add _).trans ((credit_dst t).trans (expect_got m c t).symm))) $$ [Hc HO Hat]
  · isplitr; · iapply (known_inv m K (c, some (.inr t))); iexact HK
    isplitl [Hc]; · iapply (cred_of (F := F) (gotCell c t) (credit_dst t)); iexact Hc
    isplitl [HO]; · iexact HO
    isplitr
    · iapply hw; iexact HK
    iexact Hat
  iintro ⟨HO, Hat, -, Hpay⟩
  ihave Hp := ((Entails.of_eq (rest_got m c t)).trans hA) $$ Hpay
  icases Hp with ⟨Hkeep, HA⟩
  rw [wp_ret]; imodintro
  isplitr [HA]
  · isplitr; · iexact HK
    isplitl [HO]; · iexists _; iexact HO
    isplitl [Htodo]; · iexact Htodo
    isplitl [Hsending]; · iexact Hsending
    isplitl [Hget]; · iexact Hget
    isplitl [Hkeep Hat]
    · isplitl [Hkeep] <;> iassumption
    iexact Hgot
  iexact HA

/-- The transfer that carries on what another one brought. -/
inductive Next : Xfer → Xfer → Prop where
  | r0 (q : Fin 4) : Next (.r0 q) (.r 0 q)
  | r (h : Fin 6) (q : Fin 4) : Next (.r h.castSucc q) (.r h.succ q)
  | l0 (q : Fin 4) : Next (.l0 q) (.l 0 q)
  | l (h : Fin 5) (q : Fin 4) : Next (.l h.castSucc q) (.l h.succ q)

omit [FloatOps F] in
theorem halves (v : Memref sig .tc .vmem S64x256 .f32) (c : Dev nD) (f : Buf (Elt F) (v.view.loc (c : Thread nD τ))) :
    pts v c fullShare f ⊣⊢ (iprop(pts v c fullShare.left f ∗ pts v c fullShare.right f) : sProp 𝕄) := by
  unfold pts; exact pointsTo_share (PosShare.mem_left_op_right _)

omit [FloatOps F] in
theorem keep_next (c : Dev nD) {t t' : Xfer} (h : Next t t') : gotPay m c t ⊢ iprop(keep m c t ∗ onward m c t') := by
  unfold gotPay
  refine (halves _ c _).1.trans (sep_comm.1.trans ?_)
  cases h with
  | r0 q => exact BI.Entails.refl _
  | r h q => rw [show keep m c (.r h.castSucc q) = pts (Xfer.r h.castSucc q).dst c fullShare.right (dstBuf m c (.r h.castSucc q)) from by
      unfold keep keepShare; simp only; rw [if_neg (by show h.val ≠ 6; omega)]]; exact BI.Entails.refl _
  | l0 q => exact BI.Entails.refl _
  | l h q => rw [show keep m c (.l h.castSucc q) = pts (Xfer.l h.castSucc q).dst c fullShare.right (dstBuf m c (.l h.castSucc q)) from by
      unfold keep keepShare; simp only; rw [if_neg (by show h.val ≠ 5; omega)]]; exact BI.Entails.refl _
omit [FloatOps F] in
theorem keep_last_r (c : Dev nD) (q : Fin 4) : gotPay m c (.r 6 q) ⊢ iprop(keep m c (.r 6 q) ∗ emp) := by
  refine Entails.trans ?_ Laws.sep_emp.2; exact BI.Entails.refl _
omit [FloatOps F] in
theorem keep_last_l (c : Dev nD) (q : Fin 4) : gotPay m c (.l 5 q) ⊢ iprop(keep m c (.l 5 q) ∗ emp) := by
  refine Entails.trans ?_ Laws.sep_emp.2; exact BI.Entails.refl _

/-- A landing received and at once sent on. -/
theorem relay (c : Dev nD) {t t' : Xfer} (h : Next t t') {n r : ℕ} (hn : t'.ord = n) (hr : t.rord = r) (hl : ∀ u : Xfer, n ≤ u.ord → t.hop < u.hop)
    {k : P F PUnit} {Q : PUnit → sProp 𝕄} (hk : St m K c (n + 1) (r + 1) ⊢ wpB c k Q) :
    St m K c n r ⊢ wpB c (gotP t >>= fun _ => startP (t'.dest c) t' >>= fun _ => k) Q :=
  seq (got_spec m K c t hr hl (keep_next m c h)) (seq (start_spec m K c t' hn) hk)

/-! ## Hops -/

theorem hop_of_ord (k : ℕ) (u : Xfer) (h : 8 + 8 * k ≤ u.ord) : k + 1 ≤ u.hop := by
  rcases u with q | ⟨h', q⟩ | q | ⟨h', q⟩ <;> simp only [Xfer.ord, Xfer.hop] at h ⊢ <;> (try split_ifs at h) <;> omega

theorem ord_r (h : Fin 6) (q : Fin 4) : (Xfer.r h.castSucc q).ord = 8 + 8 * h.val + 2 * q.val := by
  simp only [Xfer.ord]; rw [if_neg (by show h.val ≠ 6; omega)]; rfl
theorem rord_r (h : Fin 6) (q : Fin 4) : (Xfer.r h.castSucc q).rord = 8 + 8 * h.val + 2 * q.val := by
  simp only [Xfer.rord]; rw [if_neg (by show h.val ≠ 6; omega)]; rfl

theorem pump0_spec (c : Dev nD) (q : Fin 4) {n r : ℕ} (hn : n = 8 + 2 * q.val) (hr : r = 2 * q.val) :
    St m K c n r ⊢ wpB c (pump0 c q) fun _ => St m K c (n + 2) (r + 2) := by
  unfold pump0
  rw [nxtW_eq, prvW_eq, rGot0_eq, lGot0_eq, rStart_eq, lStart_eq]
  refine relay m K c (Next.r0 q) ((ord_r 0 q).trans ?_) hr.symm (fun u hu => ?_) (seq (got_spec m K c (.l0 q) ?_ (fun u hu => ?_) (keep_next m c (Next.l0 q))) (start_spec m K c (.l 0 q) ?_))
  · rw [hn]; rfl
  · have := hop_of_ord 0 u (by omega); exact this
  · rw [hr]; rfl
  · have := hop_of_ord 0 u (by omega); exact this
  · rw [hn]; rfl

theorem pump_spec (c : Dev nD) (h : Fin 5) (q : Fin 4) {n r : ℕ} (hn : n = 16 + 8 * h.val + 2 * q.val) (hr : r = 8 + 8 * h.val + 2 * q.val) :
    St m K c n r ⊢ wpB c (pump c h q) fun _ => St m K c (n + 2) (r + 2) := by
  unfold pump
  rw [nxtW_eq, prvW_eq, rGot_eq, lGot_eq, rStart_eq, lStart_eq]
  refine relay m K c (Next.r h.castSucc q) ((ord_r h.succ q).trans ?_) ((rord_r h.castSucc q).trans ?_) (fun u hu => ?_)
    (seq (got_spec m K c (.l h.castSucc q) ?_ (fun u hu => ?_) (keep_next m c (Next.l h q))) (start_spec m K c (.l h.succ q) ?_))
  · rw [hn, Fin.val_succ]; omega
  · rw [hr]; rfl
  · have := hop_of_ord (h.val + 1) u (by omega); exact this
  · rw [hr]; rfl
  · have := hop_of_ord (h.val + 1) u (by omega); exact this
  · rw [hn]; show 8 + 8 * h.succ.val + 2 * q.val + 1 = _; rw [Fin.val_succ]; omega

theorem pump6_spec (c : Dev nD) (q : Fin 4) {n r : ℕ} (hn : n = 56 + q.val) (hr : r = 48 + 2 * q.val) :
    St m K c n r ⊢ wpB c (pump6 c q) fun _ => St m K c (n + 1) (r + 2) := by
  unfold pump6
  rw [nxtW_eq, rGot_eq, lGot_eq, rStart_eq]
  refine relay m K c (Next.r 5 q) (Eq.trans ?_ hn.symm) ((rord_r 5 q).trans ?_) (fun u hu => ?_)
    ((got_spec m K c (.l 5 q) ?_ (fun u hu => ?_) (keep_last_l m c q)).trans (wp_mono _ _ _ fun _ => Laws.sep_emp.1))
  · rfl
  · rw [hr]; rfl
  · have := hop_of_ord 6 u (by omega); exact this
  · rw [hr]; rfl
  · have := hop_of_ord 6 u (by omega); exact this

theorem last_spec (c : Dev nD) (q : Fin 4) {r : ℕ} (hr : r = 56 + q.val) :
    St m K c 60 r ⊢ wpB c (rGot 6 q) fun _ => St m K c 60 (r + 1) := by
  rw [rGot_eq]
  refine (got_spec m K c (.r 6 q) ?_ (fun u hu => ?_) (keep_last_r m c q)).trans (wp_mono _ _ _ fun _ => Laws.sep_emp.1)
  · rw [hr]; rfl
  · have := ord_lt u; omega

end Cert.Moe

end
-- ==== Proof.Loads.lean ====
/-
The loads of landed pairs, and the hops.

A slot's four pieces are held apart; a load of the whole slot borrows all four. `hop0_spec`, `hop_spec`, `hop6_spec` and
`hop7_spec` say what a hop does to what the device holds, and which sum it returns.
-/
module

public import proofs.«01_k».proof.Proof.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-! ## The landed pieces by slot -/

/-- The elements of a piece, as a set of positions in its buffer. -/
def rPiece (s : Fin 9) (q : Fin 4) : Finset S9x2x128x256.Idx := (rSlot s q).view.set
def lPiece (s : Fin 8) (q : Fin 4) : Finset S8x2x128x256.Idx := (lSlot s q).view.set

theorem gotPay_fwd (c : Dev nD) (s : Fin 8) (q : Fin 4) : gotPay m c (Xfer.fwdOf s q)
    = ((c : Thread nD τ).loc cc0_scratch0 ↦[rPiece s.succ q]{fullShare} rBuf m c : sProp 𝕄) := by induction s using Fin.cases <;> rfl
theorem gotPay_bwd (c : Dev nD) (s : Fin 7) (q : Fin 4) : gotPay m c (Xfer.bwdOf s q)
    = ((c : Thread nD τ).loc cc0_scratch1 ↦[lPiece s.succ q]{fullShare} lBuf m c : sProp 𝕄) := by induction s using Fin.cases <;> rfl

/-- The share of a slot that stays on the device it landed on. -/
def rShare (s : Fin 8) : PosShare TreeShare := if s.val = 7 then fullShare else fullShare.right
def lShare (s : Fin 7) : PosShare TreeShare := if s.val = 6 then fullShare else fullShare.right

theorem keep_fwd (c : Dev nD) (s : Fin 8) (q : Fin 4) : keep m c (Xfer.fwdOf s q)
    = ((c : Thread nD τ).loc cc0_scratch0 ↦[rPiece s.succ q]{rShare s} rBuf m c : sProp 𝕄) := by
  induction s using Fin.cases with
  | zero => rfl
  | succ h =>
    rw [show rShare h.succ = keepShare (.r h q) from by
      unfold rShare keepShare; simp only [Fin.val_succ]; by_cases e : h.val = 6
      · rw [if_pos (by omega), if_pos e]
      · rw [if_neg (by omega), if_neg e]]
    rfl
theorem keep_bwd (c : Dev nD) (s : Fin 7) (q : Fin 4) : keep m c (Xfer.bwdOf s q)
    = ((c : Thread nD τ).loc cc0_scratch1 ↦[lPiece s.succ q]{lShare s} lBuf m c : sProp 𝕄) := by
  induction s using Fin.cases with
  | zero => rfl
  | succ h =>
    rw [show lShare h.succ = keepShare (.l h q) from by
      unfold lShare keepShare; simp only [Fin.val_succ]; by_cases e : h.val = 5
      · rw [if_pos (by omega), if_pos e]
      · rw [if_neg (by omega), if_neg e]]
    rfl

theorem fwdOf_inj (s : Fin 8) : Function.Injective (Xfer.fwdOf s) := fun q q' h => by
  have : (s, q) = (s, q') := Sum.inl.inj (Xfer.sides.injective (a₁ := .inl (s, q)) (a₂ := .inl (s, q')) h)
  exact (Prod.mk.inj this).2
theorem bwdOf_inj (s : Fin 7) : Function.Injective (Xfer.bwdOf s) := fun q q' h => by
  have : (s, q) = (s, q') := Sum.inr.inj (Xfer.sides.injective (a₁ := .inr (s, q)) (a₂ := .inr (s, q')) h)
  exact (Prod.mk.inj this).2

theorem fwdOf_rord (s : Fin 8) (q : Fin 4) {r : ℕ} (h : 8 + 8 * s.val ≤ r ∨ 60 ≤ r) : (Xfer.fwdOf s q).rord < r := by
  induction s using Fin.cases with
  | zero => show 2 * q.val < r; omega
  | succ t =>
    have := Fin.val_succ t
    show (Xfer.r t q).rord < r
    simp only [Xfer.rord]; split <;> omega
theorem bwdOf_rord (s : Fin 7) (q : Fin 4) {r : ℕ} (h : 8 + 8 * s.val ≤ r) : (Xfer.bwdOf s q).rord < r := by
  induction s using Fin.cases with
  | zero => show 2 * q.val + 1 < r; omega
  | succ t =>
    have := Fin.val_succ t
    show (Xfer.l t q).rord < r
    simp only [Xfer.rord]; omega

/-! ## A load of four pieces -/

theorem load_four (c : Dev nD) {s : Shape} {e : EltTy} (M : Memref sig .tc .vmem s e) (lr : LoadRect s) (hl : M.view.LoadsAt lr)
    (f : Buf (Elt F) (M.view.loc (c : Thread nD τ))) (sh : PosShare TreeShare) (I : Fin 4 → Finset (Idx (M.view.loc (c : Thread nD τ))))
    (hd : ∀ q q', q ≠ q' → Disjoint (I q) (I q')) (hs : M.view.setOn lr.set ⊆ Finset.univ.biUnion I) :
    (bigSep Finset.univ fun q => (M.view.loc (c : Thread nD τ) ↦[I q]{sh} f : sProp 𝕄))
      ⊢ wpB c (.op (.load M lr hl) .ret) fun v => iprop(⌜v = M.view.readAt (Elt F) lr f⌝
          ∗ bigSep Finset.univ fun q => (M.view.loc (c : Thread nD τ) ↦[I q]{sh} f : sProp 𝕄)) := by
  rw [← pointsTo_biUnion Finset.univ I fun q _ q' _ h => hd q q' h]
  iintro H
  iapply (wp_load 𝒱₀ (c : Thread nD τ) none Set.univ (m := M) hs) $$ H
  iintro H
  rw [wp_ret]; imodintro
  isplitr
  · ipureintro; rfl
  · iexact H

theorem part_split {S T : Finset Xfer} (h : T ⊆ S) (Φ : Xfer → sProp 𝕄) : bigSep S Φ = iprop(bigSep T Φ ∗ bigSep (S \ T) Φ) := bigSep_sdiff_split h

/-- Four received transfers singled out of all received so far. -/
theorem kept_four (c : Dev nD) (r : ℕ) (u : Fin 4 ↪ Xfer) (hu : ∀ q, (u q).rord < r) :
    upto Xfer.rord r (gotten m c) = (iprop(((bigSep Finset.univ fun q => keep m c (u q))
      ∗ (bigSep Finset.univ fun q => atPos ER (gotCell c (u q)) 1 ∅ 0)) ∗ bigSep ((Finset.univ.filter fun t : Xfer => t.rord < r) \ Finset.univ.map u) (gotten m c)) : sProp 𝕄) := by
  unfold upto
  rw [part_split (T := Finset.univ.map u) (fun t ht => by
      obtain ⟨q, -, rfl⟩ := Finset.mem_map.mp ht
      exact Finset.mem_filter.mpr ⟨Finset.mem_univ _, hu q⟩) (gotten m c), bigSep_map]
  unfold gotten
  rw [bigSep_sep']

theorem reframe {c : Dev nD} {α : Type} {Pre A R : sProp 𝕄} {p : P F α} {φ : α → Prop} (h₁ : Pre ⊢ iprop(A ∗ R)) (h₂ : iprop(A ∗ R) ⊢ Pre)
    (h : A ⊢ wpB c p fun v => iprop(⌜φ v⌝ ∗ A)) : Pre ⊢ wpB c p fun v => iprop(⌜φ v⌝ ∗ Pre) := by
  refine h₁.trans ((framed h).trans (wp_mono _ _ _ fun v => ?_))
  iintro ⟨⟨%e, HA⟩, HR⟩
  isplitr
  · ipureintro; exact e
  iapply h₂
  isplitl [HA] <;> iassumption

/-- What a load needs of the state is the four pieces. -/
theorem load_held (c : Dev nD) {n r : ℕ} {α : Type} {p : P F α} {φ : α → Prop} (u : Fin 4 ↪ Xfer) (hu : ∀ q, (u q).rord < r)
    (h : (bigSep Finset.univ fun q => keep m c (u q)) ⊢ wpB c p fun v => iprop(⌜φ v⌝ ∗ bigSep Finset.univ fun q => keep m c (u q))) :
    St m K c n r ⊢ wpB c p fun v => iprop(⌜φ v⌝ ∗ St m K c n r) := by
  refine reframe (R := iprop((bigSep Finset.univ fun q => atPos ER (gotCell c (u q)) 1 ∅ 0)
      ∗ bigSep ((Finset.univ.filter fun t : Xfer => t.rord < r) \ Finset.univ.map u) (gotten m c)
      ∗ known m K ∗ (∃ W, owes (c : Thread nD τ) (owing c n) W)
      ∗ from' Xfer.ord n (toStart m c) ∗ upto Xfer.ord n (sending (F := F) c) ∗ from' Xfer.rord r (toGet (F := F) c))) ?_ ?_ h
  · unfold St
    rw [kept_four m c r u hu]
    iintro ⟨H1, H2, H3, H4, H5, ⟨H6, H7⟩, H8⟩
    isplitl [H6]; · iexact H6
    isplitl [H7]; · iexact H7
    isplitl [H8]; · iexact H8
    isplitl [H1]; · iexact H1
    isplitl [H2]; · iexact H2
    isplitl [H3]; · iexact H3
    isplitl [H4]; · iexact H4
    iexact H5
  · unfold St
    rw [kept_four m c r u hu]
    iintro ⟨H6, H7, H8, H1, H2, H3, H4, H5⟩
    isplitl [H1]; · iexact H1
    isplitl [H2]; · iexact H2
    isplitl [H3]; · iexact H3
    isplitl [H4]; · iexact H4
    isplitl [H5]; · iexact H5
    isplitl [H6 H7]
    · isplitl [H6] <;> iassumption
    iexact H8

/-! ## The loads of a slot -/

abbrev rRect (s : Fin 9) : Rect S9x2x128x256 := Rect.unit (s := S9x2x128x256) ![s.val, 0, 0, 0] S1x2x128x256.size (inb_rPair s)
abbrev lRect (s : Fin 8) : Rect S8x2x128x256 := Rect.unit (s := S8x2x128x256) ![s.val, 0, 0, 0] S1x2x128x256.size (inb_lPair s)

/-- What a load of a landed slot returns. -/
def rRead (c : Dev nD) (s : Fin 9) : Vec F S1x2x128x256 .f32 := (rM : Memref sig .tc .vmem S9x2x128x256 .f32).view.readAt (Elt F) (rRect s).toLoadRect (rBuf m c)
def lRead (c : Dev nD) (s : Fin 8) : Vec F S1x2x128x256 .f32 := (lM : Memref sig .tc .vmem S8x2x128x256 .f32).view.readAt (Elt F) (lRect s).toLoadRect (lBuf m c)

theorem rRect_sub (s : Fin 9) : (rM : Memref sig .tc .vmem S9x2x128x256 .f32).view.setOn (rRect s).toLoadRect.set ⊆ Finset.univ.biUnion (rPiece s) := by
  intro i hi
  obtain ⟨j, hj, rfl⟩ := Finset.mem_map.mp hi
  obtain ⟨k, rfl⟩ := LoadRect.exists_idx_of_mem _ hj
  obtain ⟨q, hq⟩ := rSlot_cover s ((rRect s).toLoadRect.idx k) (by
    have : (k 0).val < 1 := (k 0).isLt
    show s.val + 1 * (k 0).val = s.val; omega)
  exact Finset.mem_biUnion.mpr ⟨q, Finset.mem_univ q, hq⟩
theorem lRect_sub (s : Fin 8) : (lM : Memref sig .tc .vmem S8x2x128x256 .f32).view.setOn (lRect s).toLoadRect.set ⊆ Finset.univ.biUnion (lPiece s) := by
  intro i hi
  obtain ⟨j, hj, rfl⟩ := Finset.mem_map.mp hi
  obtain ⟨k, rfl⟩ := LoadRect.exists_idx_of_mem _ hj
  obtain ⟨q, hq⟩ := lSlot_cover s ((lRect s).toLoadRect.idx k) (by
    have : (k 0).val < 1 := (k 0).isLt
    show s.val + 1 * (k 0).val = s.val; omega)
  exact Finset.mem_biUnion.mpr ⟨q, Finset.mem_univ q, hq⟩

theorem rLoad_spec (c : Dev nD) (s : Fin 8) {n r : ℕ} (h : 8 + 8 * s.val ≤ r ∨ 60 ≤ r) :
    St m K c n r ⊢ wpB c (rLoad s.succ) fun v => iprop(⌜v = rRead m c s.succ⌝ ∗ St m K c n r) := by
  refine load_held m K c ⟨Xfer.fwdOf s, fwdOf_inj s⟩ (fun q => fwdOf_rord s q h) ?_
  simp only [Function.Embedding.coeFn_mk, keep_fwd]
  exact load_four c rM (rRect s.succ).toLoadRect (View.loadsAt_vmem h_S1x2x128x256) (rBuf m c) (rShare s) (rPiece s.succ)
    (fun q q' hq => rSlot_disjoint (fun e => hq (Prod.mk.inj e).2)) (rRect_sub s.succ)
theorem lLoad_spec (c : Dev nD) (s : Fin 7) {n r : ℕ} (h : 8 + 8 * s.val ≤ r) :
    St m K c n r ⊢ wpB c (lLoad s.succ) fun v => iprop(⌜v = lRead m c s.succ⌝ ∗ St m K c n r) := by
  refine load_held m K c ⟨Xfer.bwdOf s, bwdOf_inj s⟩ (fun q => bwdOf_rord s q h) ?_
  simp only [Function.Embedding.coeFn_mk, keep_bwd]
  exact load_four c lM (lRect s.succ).toLoadRect (View.loadsAt_vmem h_S1x2x128x256) (lBuf m c) (lShare s) (lPiece s.succ)
    (fun q q' hq => lSlot_disjoint (fun e => hq (Prod.mk.inj e).2)) (lRect_sub s.succ)

/-! ## The hops -/

/-- The sum after hop `h`, from the one before it. -/
def stepAt (c : Dev nD) (h : Fin 7) (x : Vec F S256x128 .f32) (ix : Vec F S256x1 .i32) (p : FVec F S256 .f32) (acc : FVec F S256x256 .f32) : FVec F S256x256 .f32 :=
  lAdd c h x ix p (rAdd c h.castSucc x ix p acc (rRead m c h.castSucc.succ)) (lRead m c h.succ)

theorem pure_spec {c : Dev nD} {α : Type} {R : sProp 𝕄} (v : α) : R ⊢ wpB c (pure v) fun b => iprop(⌜b = v⌝ ∗ R) := by
  unfold wpB
  rw [Prog.pure_eq_ret, wp_ret]
  iintro H; imodintro
  isplitr
  · ipureintro; rfl
  · iexact H

theorem gather_spec (c : Dev nD) (h : Fin 7) (x : Vec F S256x128 .f32) (ix : Vec F S256x1 .i32) (p : FVec F S256 .f32) (acc : FVec F S256x256 .f32)
    {n r : ℕ} (hr : 8 + 8 * h.val ≤ r) :
    St m K c n r ⊢ wpB c (gather c h x ix p acc) fun b => iprop(⌜b = stepAt m c h x ix p acc⌝ ∗ St m K c n r) := by
  unfold gather
  exact seqv (rLoad_spec m K c h.castSucc (.inl hr)) (seqv (lLoad_spec m K c h hr) (pure_spec _))

theorem hop0_spec (c : Dev nD) (x : Vec F S256x128 .f32) (ix : Vec F S256x1 .i32) (p : FVec F S256 .f32) (acc : FVec F S256x256 .f32) :
    St m K c 8 0 ⊢ wpB c (hop0 c x ix p acc) fun b => iprop(⌜b = stepAt m c 0 x ix p acc⌝ ∗ St m K c 16 8) := by
  unfold hop0
  exact seq (pump0_spec m K c 0 rfl rfl) (seq (pump0_spec m K c 1 rfl rfl) (seq (pump0_spec m K c 2 rfl rfl) (seq (pump0_spec m K c 3 rfl rfl)
    (gather_spec m K c 0 x ix p acc (Nat.le_refl _)))))

theorem hop_spec (c : Dev nD) (h : Fin 5) (x : Vec F S256x128 .f32) (ix : Vec F S256x1 .i32) (p : FVec F S256 .f32) (acc : FVec F S256x256 .f32)
    {n r : ℕ} (hn : n = 16 + 8 * h.val) (hr : r = 8 + 8 * h.val) :
    St m K c n r ⊢ wpB c (hop c h x ix p acc) fun b => iprop(⌜b = stepAt m c h.castSucc.succ x ix p acc⌝ ∗ St m K c (n + 8) (r + 8)) := by
  subst hn hr
  unfold hop
  exact seq (pump_spec m K c h 0 rfl rfl) (seq (pump_spec m K c h 1 rfl rfl) (seq (pump_spec m K c h 2 rfl rfl) (seq (pump_spec m K c h 3 rfl rfl)
    (gather_spec m K c h.castSucc.succ x ix p acc (by rw [Fin.val_succ]; show 8 + 8 * (h.val + 1) ≤ 8 + 8 * h.val + 8; omega)))))

theorem hop6_spec (c : Dev nD) (x : Vec F S256x128 .f32) (ix : Vec F S256x1 .i32) (p : FVec F S256 .f32) (acc : FVec F S256x256 .f32) :
    St m K c 56 48 ⊢ wpB c (hop6 c x ix p acc) fun b => iprop(⌜b = stepAt m c 6 x ix p acc⌝ ∗ St m K c 60 56) := by
  unfold hop6
  exact seq (pump6_spec m K c 0 rfl rfl) (seq (pump6_spec m K c 1 rfl rfl) (seq (pump6_spec m K c 2 rfl rfl) (seq (pump6_spec m K c 3 rfl rfl)
    (gather_spec m K c 6 x ix p acc (Nat.le_refl _)))))

theorem hop7_spec (c : Dev nD) (x : Vec F S256x128 .f32) (ix : Vec F S256x1 .i32) (p : FVec F S256 .f32) (acc : FVec F S256x256 .f32) :
    St m K c 60 56 ⊢ wpB c (hop7 c x ix p acc) fun b => iprop(⌜b = rAdd c 7 x ix p acc (rRead m c 8)⌝ ∗ St m K c 60 60) := by
  unfold hop7
  exact seq (last_spec m K c 0 rfl) (seq (last_spec m K c 1 rfl) (seq (last_spec m K c 2 rfl) (seq (last_spec m K c 3 rfl)
    (seqv (rLoad_spec m K c 7 (.inr (Nat.le_refl _))) (pure_spec _)))))

end Cert.Moe

end
-- ==== Proof.Meet.lean ====
/-
The buffers cut into pieces and put together again, and the handshake.

Before its two signals a device cuts both landing buffers into the pieces transfers land in; slot 0 of either, which no
transfer uses, stays aside. Its signal to a neighbour hands over the pieces that neighbour writes.
-/
module

public import proofs.«01_k».proof.Proof.Loads

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-! ## The landing buffers in pieces -/

/-- The elements transfers land in. -/
def rAll : Finset S9x2x128x256.Idx := Finset.univ.biUnion fun p : Fin 8 × Fin 4 => rPiece p.1.succ p.2
def lAll : Finset S8x2x128x256.Idx := Finset.univ.biUnion fun p : Fin 7 × Fin 4 => lPiece p.1.succ p.2

theorem rPiece_disjoint : ∀ p ∈ (Finset.univ : Finset (Fin 8 × Fin 4)), ∀ p' ∈ (Finset.univ : Finset (Fin 8 × Fin 4)), p ≠ p' →
    Disjoint (rPiece p.1.succ p.2) (rPiece p'.1.succ p'.2) := fun p _ p' _ h =>
  rSlot_disjoint fun e => h (Prod.ext (Fin.succ_injective _ (Prod.mk.inj e).1) (Prod.mk.inj e).2)
theorem lPiece_disjoint : ∀ p ∈ (Finset.univ : Finset (Fin 7 × Fin 4)), ∀ p' ∈ (Finset.univ : Finset (Fin 7 × Fin 4)), p ≠ p' →
    Disjoint (lPiece p.1.succ p.2) (lPiece p'.1.succ p'.2) := fun p _ p' _ h =>
  lSlot_disjoint fun e => h (Prod.ext (Fin.succ_injective _ (Prod.mk.inj e).1) (Prod.mk.inj e).2)

/-- A whole landing buffer, at some contents; and its slot 0. -/
def rWhole (c : Dev nD) : sProp 𝕄 := iprop(∃ f : Buf (Elt F) ((c : Thread nD τ).loc cc0_scratch0), (c : Thread nD τ).loc cc0_scratch0 ↦{fullShare} f)
def lWhole (c : Dev nD) : sProp 𝕄 := iprop(∃ f : Buf (Elt F) ((c : Thread nD τ).loc cc0_scratch1), (c : Thread nD τ).loc cc0_scratch1 ↦{fullShare} f)
def rAside (c : Dev nD) : sProp 𝕄 := iprop(∃ f : Buf (Elt F) ((c : Thread nD τ).loc cc0_scratch0), (c : Thread nD τ).loc cc0_scratch0 ↦[Finset.univ \ rAll]{fullShare} f)
def lAside (c : Dev nD) : sProp 𝕄 := iprop(∃ f : Buf (Elt F) ((c : Thread nD τ).loc cc0_scratch1), (c : Thread nD τ).loc cc0_scratch1 ↦[Finset.univ \ lAll]{fullShare} f)

theorem room_fwd (c : Dev nD) (s : Fin 8) (q : Fin 4) (f : Buf (Elt F) ((c : Thread nD τ).loc cc0_scratch0)) :
    ((c : Thread nD τ).loc cc0_scratch0 ↦[rPiece s.succ q]{fullShare} f : sProp 𝕄) ⊢ room (F := F) c (Xfer.fwdOf s q) := by
  unfold room pts
  induction s using Fin.cases with
  | zero => iintro H; iexists f; iexact H
  | succ h => iintro H; iexists f; iexact H
theorem room_bwd (c : Dev nD) (s : Fin 7) (q : Fin 4) (f : Buf (Elt F) ((c : Thread nD τ).loc cc0_scratch1)) :
    ((c : Thread nD τ).loc cc0_scratch1 ↦[lPiece s.succ q]{fullShare} f : sProp 𝕄) ⊢ room (F := F) c (Xfer.bwdOf s q) := by
  unfold room pts
  induction s using Fin.cases with
  | zero => iintro H; iexists f; iexact H
  | succ h => iintro H; iexists f; iexact H

theorem cut_fwd (c : Dev nD) : rWhole (F := F) c ⊢ iprop(rAside (F := F) c ∗ bigSep Finset.univ fun p : Fin 8 × Fin 4 => room (F := F) c (Xfer.fwdOf p.1 p.2)) := by
  unfold rWhole rAside
  iintro ⟨%f, H⟩
  ihave H' := (pointsTo_split_subset (ℓ := (c : Thread nD τ).loc cc0_scratch0) (q := fullShare) (f := f) (Finset.subset_univ rAll)).1 $$ H
  icases H' with ⟨H1, H2⟩
  isplitl [H2]
  · iexists f; iexact H2
  · iapply ((Entails.of_eq (pointsTo_biUnion (ℓ := (c : Thread nD τ).loc cc0_scratch0) (q := fullShare) (f := f) Finset.univ
      (fun p : Fin 8 × Fin 4 => rPiece p.1.succ p.2) rPiece_disjoint)).trans (bigSep_mono fun p _ => room_fwd c p.1 p.2 f))
    iexact H1
theorem cut_bwd (c : Dev nD) : lWhole (F := F) c ⊢ iprop(lAside (F := F) c ∗ bigSep Finset.univ fun p : Fin 7 × Fin 4 => room (F := F) c (Xfer.bwdOf p.1 p.2)) := by
  unfold lWhole lAside
  iintro ⟨%f, H⟩
  ihave H' := (pointsTo_split_subset (ℓ := (c : Thread nD τ).loc cc0_scratch1) (q := fullShare) (f := f) (Finset.subset_univ lAll)).1 $$ H
  icases H' with ⟨H1, H2⟩
  isplitl [H2]
  · iexists f; iexact H2
  · iapply ((Entails.of_eq (pointsTo_biUnion (ℓ := (c : Thread nD τ).loc cc0_scratch1) (q := fullShare) (f := f) Finset.univ
      (fun p : Fin 7 × Fin 4 => lPiece p.1.succ p.2) lPiece_disjoint)).trans (bigSep_mono fun p _ => room_bwd c p.1 p.2 f))
    iexact H1

theorem join_fwd (c : Dev nD) : iprop((bigSep Finset.univ fun p : Fin 8 × Fin 4 => gotPay m c (Xfer.fwdOf p.1 p.2)) ∗ rAside (F := F) c) ⊢ rWhole (F := F) c := by
  unfold rWhole rAside
  simp only [gotPay_fwd]
  rw [← pointsTo_biUnion (ℓ := (c : Thread nD τ).loc cc0_scratch0) (q := fullShare) (f := rBuf m c) Finset.univ
      (fun p : Fin 8 × Fin 4 => rPiece p.1.succ p.2) rPiece_disjoint]
  iintro ⟨H1, %f, H2⟩
  iexists _
  iapply (pointsTo_join_subset (ℓ := (c : Thread nD τ).loc cc0_scratch0) (q := fullShare) (f := f) (g := rBuf m c) (Finset.subset_univ rAll))
  isplitl [H1]
  · iexact H1
  · iexact H2
theorem join_bwd (c : Dev nD) : iprop((bigSep Finset.univ fun p : Fin 7 × Fin 4 => gotPay m c (Xfer.bwdOf p.1 p.2)) ∗ lAside (F := F) c) ⊢ lWhole (F := F) c := by
  unfold lWhole lAside
  simp only [gotPay_bwd]
  rw [← pointsTo_biUnion (ℓ := (c : Thread nD τ).loc cc0_scratch1) (q := fullShare) (f := lBuf m c) Finset.univ
      (fun p : Fin 7 × Fin 4 => lPiece p.1.succ p.2) lPiece_disjoint]
  iintro ⟨H1, %f, H2⟩
  iexists _
  iapply (pointsTo_join_subset (ℓ := (c : Thread nD τ).loc cc0_scratch1) (q := fullShare) (f := f) (g := lBuf m c) (Finset.subset_univ lAll))
  isplitl [H1]
  · iexact H1
  · iexact H2

/-! ## The device's own pair -/

def ownPiece (q : Fin 4) : Finset S2x128x256.Idx := (own q).view.set
theorem own_univ : (Finset.univ : Finset S2x128x256.Idx) = Finset.univ.biUnion ownPiece := by
  ext i
  constructor
  · intro _
    obtain ⟨q, hq⟩ := own_cover i
    exact Finset.mem_biUnion.mpr ⟨q, Finset.mem_univ q, hq⟩
  · intro _; exact Finset.mem_univ i

/-- The staged pair, at a share. -/
def pair (c : Dev nD) (q : PosShare TreeShare) : sProp 𝕄 := (c : Thread nD τ).loc cc0_stg3_0 ↦{q} pairAt m c

theorem pair_pieces (c : Dev nD) (q : PosShare TreeShare) : pair m c q
    = bigSep Finset.univ fun k : Fin 4 => ((c : Thread nD τ).loc cc0_stg3_0 ↦[ownPiece k]{q} pairAt m c : sProp 𝕄) := by
  unfold pair
  rw [← pointsTo_biUnion (ℓ := (c : Thread nD τ).loc cc0_stg3_0) (q := q) (f := pairAt m c) Finset.univ ownPiece
    (fun k _ k' _ h => own_disjoint h)]
  exact congrArg (fun S : Finset S2x128x256.Idx => ((c : Thread nD τ).loc cc0_stg3_0 ↦[S]{q} pairAt m c : sProp 𝕄)) own_univ

/-- Both rings read the pair while the device loads it. -/
theorem pair_split (c : Dev nD) : pair m c fullShare ⊣⊢ iprop((bigSep Finset.univ fun q : Fin 4 => sentPay m c (.r0 q))
    ∗ (bigSep Finset.univ fun q : Fin 4 => sentPay m c (.l0 q)) ∗ pair m c fullShare.right.right) := by
  have h1 : pair m c fullShare ⊣⊢ iprop(pair m c fullShare.left ∗ pair m c fullShare.right) := by
    unfold pair; exact pointsTo_share (PosShare.mem_left_op_right _)
  have h2 : pair m c fullShare.right ⊣⊢ iprop(pair m c fullShare.right.left ∗ pair m c fullShare.right.right) := by
    unfold pair; exact pointsTo_share (PosShare.mem_left_op_right _)
  have e1 : pair m c fullShare.left = bigSep Finset.univ fun q : Fin 4 => sentPay m c (.r0 q) := pair_pieces m c _
  have e2 : pair m c fullShare.right.left = bigSep Finset.univ fun q : Fin 4 => sentPay m c (.l0 q) := pair_pieces m c _
  rw [← e1, ← e2]
  constructor
  · iintro H
    ihave H := h1.1 $$ H
    icases H with ⟨H1, H2⟩
    ihave H2 := h2.1 $$ H2
    isplitl [H1]; · iexact H1
    iexact H2
  · iintro ⟨H1, H2⟩
    iapply h1.2
    isplitl [H1]; · iexact H1
    iapply h2.2; iexact H2

/-! ## The handshake -/

theorem mayWait_bar (c : Dev nD) : (levAts L lv : sProp 𝕄) ⊢ MayWait (c : Thread nD τ) (.reg barS) () (owing c 0) :=
  mayWait_below (F := F) c (.reg barS) 0 fun t _ => by rw [lv_bar]; omega
theorem known_waitBar (c : Dev nD) : known m K ⊢ MayWait (c : Thread nD τ) (.reg barS) () (owing c 0) := by
  unfold known; iintro ⟨-, -, H⟩; iapply (mayWait_bar (F := F) c); iexact H

theorem barPay_prv (c : Dev nD) : barPay (F := F) (prv c) true = bigSep Finset.univ fun p : Fin 8 × Fin 4 => room (F := F) c (Xfer.fwdOf p.1 p.2) := by
  unfold barPay; rw [nxt_prv]
theorem barPay_nxt (c : Dev nD) : barPay (F := F) (nxt c) false = bigSep Finset.univ fun p : Fin 7 × Fin 4 => room (F := F) c (Xfer.bwdOf p.1 p.2) := by
  unfold barPay; rw [prv_nxt]

theorem meet_spec (c : Dev nD) :
    iprop(known m K ∗ (∃ W, owes (c : Thread nD τ) (owed₀ c) W) ∗ dutyTok ER (barCell (prv c)) 0 true ∗ dutyTok ER (barCell (nxt c)) 0 false
        ∗ cred (tallyAt (barCell c) () 2) ∗ atPos ER (barCell c) 0 ∅ 0 ∗ rWhole (F := F) c ∗ lWhole (F := F) c)
      ⊢ wpB c (meet c) fun _ => iprop(known m K ∗ (∃ W, owes (c : Thread nD τ) (owing c 0) W) ∗ atPos ER (barCell c) 1 ∅ 0
        ∗ (bigSep Finset.univ fun t : Xfer => room (F := F) (t.dest c) t) ∗ rAside (F := F) c ∗ lAside (F := F) c) := by
  have hw : known m K ⊢ MayWait (c : Thread nD τ) (.reg barS) () (owing c 0) := known_waitBar m K c
  unfold meet
  simp only [semSignalWord, semWaitWord, Prog.lift, Prog.bind_op, Prog.bind_ret, Prog.pure_eq_ret, dev1_eq c, dev2_eq c]
  iintro ⟨#HK, ⟨%W, HO⟩, HtP, HtN, HcB, Hat, Hr, Hl⟩
  ihave Hr := (cut_fwd (F := F) c) $$ Hr
  icases Hr with ⟨Hr0, Hr⟩
  ihave Hl := (cut_bwd (F := F) c) $$ Hl
  icases Hl with ⟨Hl0, Hl⟩
  iapply (Rounds.wp_signal 𝒱₀ ER (sched m) (c : Thread nD τ) none (dst := (prv c : Thread nD τ)) (κ := K (prv c, none))
      (d := true) (by rw [duties_bar]; exact Finset.mem_univ _) ((amount_bar m (prv c) true).trans (by decide)) () (owed₁ c) rfl)
    $$ [HO HtP Hr]
  · isplitr; · iapply (known_inv m K (prv c, none)); iexact HK
    isplitl [HO]; · iexact HO
    isplitl [HtP]; · iexact HtP
    isplitl [Hr]; · rw [payload_bar, barPay_prv]; iexact Hr
    iapply (known_reached m K (prv c, none)); iexact HK
  iintro HO
  iapply (Rounds.wp_signal 𝒱₀ ER (sched m) (c : Thread nD τ) none (dst := (nxt c : Thread nD τ)) (κ := K (nxt c, none))
      (d := false) (by rw [duties_bar]; exact Finset.mem_univ _) ((amount_bar m (nxt c) false).trans (by decide)) () (owing c 0) rfl)
    $$ [HO HtN Hl]
  · isplitr; · iapply (known_inv m K (nxt c, none)); iexact HK
    isplitl [HO]; · iexact HO
    isplitl [HtN]; · iexact HtN
    isplitl [Hl]; · rw [payload_bar, barPay_nxt]; iexact Hl
    iapply (known_reached m K (nxt c, none)); iexact HK
  iintro HO
  iapply (Rounds.wp_wait_rest_token 𝒱₀ ER (sched m) (c : Thread nD τ) none (κ := K (c, none))
      (wpE_semWait_eq 𝒱₀ (c : Thread nD τ) none Set.univ) (Set.mem_univ _) () (O := owing c 0) (W := W) (R := 0) (m := 0) (T := ∅)
      (by rw [expect_bar]; decide)) $$ [HcB HO Hat]
  · isplitr; · iapply (known_inv m K (c, none)); iexact HK
    isplitl [HcB]; · iexact HcB
    isplitl [HO]; · iexact HO
    isplitr; · iapply hw; iexact HK
    iexact Hat
  iintro ⟨HO, Hat, -, Hpay⟩
  ihave Hp := (Entails.of_eq (rest_bar m c)) $$ Hpay
  rw [wp_ret]; imodintro
  isplitr; · iexact HK
  isplitl [HO]; · iexists _; iexact HO
  isplitl [Hat]; · iexact Hat
  isplitl [Hp]; · iexact Hp
  isplitl [Hr0]; · iexact Hr0
  iexact Hl0

end Cert.Moe

end
-- ==== Proof.Drain.lean ====
/-
The drain, and everything put back.

At the end a device waits for each of its transfers to have left, in the order it started them; each wait returns the
share of the source the transfer was reading. With those and the landed pieces the buffers are whole again, and every
semaphore cell closes at zero.
-/
module

public import proofs.«01_k».proof.Proof.Meet

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-! ## A departure waited for -/

/-- The statement that waits for a transfer to have left. -/
def leftP (t : Xfer) : P F PUnit := .op (.waitDma2 t.sentS t.dst t.src t.dstExact t.srcExact) .ret

theorem rLeft0_eq (q : Fin 4) : (rLeft0 q : P F PUnit) = leftP (.r0 q) := rfl
theorem lLeft0_eq (q : Fin 4) : (lLeft0 q : P F PUnit) = leftP (.l0 q) := rfl
theorem rLeft_eq (h : Fin 7) (q : Fin 4) : (rLeft h q : P F PUnit) = leftP (.r h q) := rfl
theorem lLeft_eq (h : Fin 6) (q : Fin 4) : (lLeft h q : P F PUnit) = leftP (.l h q) := rfl

def toLeave (c : Dev nD) (t : Xfer) : sProp 𝕄 := iprop(sending (F := F) c t ∗ atPos ER (sentCell c t) 0 ∅ 0)
def gone (c : Dev nD) (t : Xfer) : sProp 𝕄 := iprop(sentPay m c t ∗ atPos ER (sentCell c t) 1 ∅ 0)

/-- What a device holds once the transfers before place `n` have left. -/
def Dr (c : Dev nD) (n : ℕ) : sProp 𝕄 :=
  iprop(known m K ∗ (∃ W, owes (c : Thread nD τ) 0 W) ∗ from' Xfer.ord n (toLeave (F := F) c) ∗ upto Xfer.ord n (gone m c))

theorem left_spec (c : Dev nD) (t : Xfer) {n : ℕ} (hn : t.ord = n) : Dr m K c n ⊢ wpB c (leftP t) fun _ => Dr m K c (n + 1) := by
  unfold Dr leftP
  rw [from'_step Xfer.ord_injective hn, upto_step Xfer.ord_injective hn]
  unfold toLeave gone sending
  iintro ⟨#HK, ⟨%W, HO⟩, ⟨⟨Hc, Hat⟩, Hrest⟩, Hgone⟩
  iapply (Rounds.wp_wait_rest_token 𝒱₀ ER (sched m) (c : Thread nD τ) none (κ := K (c, some (.inl t)))
      (wpE_waitDma2_eq 𝒱₀ (c : Thread nD τ) none Set.univ) (Set.mem_univ _) () (O := 0) (W := W) (R := 0) (m := 0) (T := ∅)
      ((Nat.zero_add _).trans ((credit_src t).trans (expect_sent m c t).symm))) $$ [Hc HO Hat]
  · isplitr; · iapply (known_inv m K (c, some (.inl t))); iexact HK
    isplitl [Hc]; · iapply (cred_of (F := F) (sentCell c t) (credit_src t)); iexact Hc
    isplitl [HO]; · iexact HO
    isplitr; · rw [MayWait_zero]; iempintro
    iexact Hat
  iintro ⟨HO, Hat, -, Hpay⟩
  ihave Hp := (Entails.of_eq (rest_sent m c t)) $$ Hpay
  rw [wp_ret]; imodintro
  isplitr; · iexact HK
  isplitl [HO]; · iexists _; iexact HO
  isplitl [Hrest]; · iexact Hrest
  isplitl [Hp Hat]
  · isplitl [Hp] <;> iassumption
  iexact Hgone

theorem leftHop_spec (c : Dev nD) (h : Fin 6) {n : ℕ} (hn : n = 8 + 8 * h.val) : Dr m K c n ⊢ wpB c (left h) fun _ => Dr m K c (n + 8) := by
  have hl (q : Fin 4) : (Xfer.l h q).ord = 8 + 8 * h.val + 2 * q.val + 1 := rfl
  unfold left
  subst hn
  exact seq (left_spec m K c (.r h.castSucc 0) (ord_r h 0)) (seq (left_spec m K c (.l h 0) (hl 0))
    (seq (left_spec m K c (.r h.castSucc 1) (ord_r h 1)) (seq (left_spec m K c (.l h 1) (hl 1))
    (seq (left_spec m K c (.r h.castSucc 2) (ord_r h 2)) (seq (left_spec m K c (.l h 2) (hl 2))
    (seq (left_spec m K c (.r h.castSucc 3) (ord_r h 3)) (left_spec m K c (.l h 3) (hl 3))))))))

theorem drain_spec (c : Dev nD) : Dr m K c 0 ⊢ wpB c drain fun _ => Dr m K c 60 := by
  unfold drain
  exact seq (left_spec m K c (.r0 0) rfl) (seq (left_spec m K c (.r0 1) rfl) (seq (left_spec m K c (.r0 2) rfl) (seq (left_spec m K c (.r0 3) rfl)
    (seq (left_spec m K c (.l0 0) rfl) (seq (left_spec m K c (.l0 1) rfl) (seq (left_spec m K c (.l0 2) rfl) (seq (left_spec m K c (.l0 3) rfl)
    (seq (leftHop_spec m K c 0 rfl) (seq (leftHop_spec m K c 1 rfl) (seq (leftHop_spec m K c 2 rfl) (seq (leftHop_spec m K c 3 rfl)
    (seq (leftHop_spec m K c 4 rfl) (seq (leftHop_spec m K c 5 rfl)
    (seq (left_spec m K c (.r 6 0) rfl) (seq (left_spec m K c (.r 6 1) rfl) (seq (left_spec m K c (.r 6 2) rfl) (left_spec m K c (.r 6 3) rfl)))))))))))))))))

/-! ## The pieces put together -/

theorem bigSep_first {n : ℕ} (Φ : Fin (n + 1) → sProp 𝕄) : bigSep Finset.univ Φ = iprop(Φ 0 ∗ bigSep Finset.univ fun k : Fin n => Φ k.succ) := by
  rw [Fin.univ_succ, Finset.cons_eq_insert, BI.bigSep_insert (by simp), BI.bigSep_map]; rfl
theorem bigSep_last {n : ℕ} (Φ : Fin (n + 1) → sProp 𝕄) :
    bigSep Finset.univ Φ = iprop(Φ (Fin.last n) ∗ bigSep Finset.univ fun k : Fin n => Φ k.castSucc) := by
  rw [Fin.univ_castSuccEmb, Finset.cons_eq_insert, BI.bigSep_insert (by simp), BI.bigSep_map]; rfl

/-- Along a ring: what stays of a hop and what the next hop gives back make the whole of it. -/
theorem along {n : ℕ} {A B C : Fin (n + 1) → sProp 𝕄} (h : ∀ s : Fin n, iprop(A s.castSucc ∗ B s.succ) ⊢ C s.castSucc) (hl : A (Fin.last n) ⊢ C (Fin.last n)) :
    iprop(bigSep Finset.univ A ∗ bigSep Finset.univ B) ⊢ iprop(bigSep Finset.univ C ∗ B 0) := by
  rw [bigSep_last A, bigSep_last C, bigSep_first B]
  iintro ⟨⟨HA, HAs⟩, HB, HBs⟩
  isplitr [HB]
  · isplitl [HA]
    · iapply hl; iexact HA
    · iapply ((Entails.of_eq (bigSep_sep' Finset.univ (fun k : Fin n => A k.castSucc) (fun k => B k.succ)).symm).trans (bigSep_mono fun s _ => h s))
      isplitl [HAs] <;> iassumption
  · iexact HB

theorem next_keep (c : Dev nD) {t t' : Xfer} (h : Next t t') : iprop(keep m c t ∗ sentPay m c t') ⊢ gotPay m c t := by
  unfold gotPay
  refine BIBase.Entails.trans ?_ (sep_comm.1.trans (halves _ c _).2)
  cases h with
  | r0 q => exact BI.Entails.refl _
  | r h q => rw [show keep m c (.r h.castSucc q) = pts (Xfer.r h.castSucc q).dst c fullShare.right (dstBuf m c (.r h.castSucc q)) from by
      unfold keep keepShare; simp only; rw [if_neg (by show h.val ≠ 6; omega)]]; exact BI.Entails.refl _
  | l0 q => exact BI.Entails.refl _
  | l h q => rw [show keep m c (.l h.castSucc q) = pts (Xfer.l h.castSucc q).dst c fullShare.right (dstBuf m c (.l h.castSucc q)) from by
      unfold keep keepShare; simp only; rw [if_neg (by show h.val ≠ 5; omega)]]; exact BI.Entails.refl _

theorem next_fwd (s : Fin 7) (q : Fin 4) : Next (Xfer.fwdOf s.castSucc q) (Xfer.fwdOf s.succ q) := by
  induction s using Fin.cases with
  | zero => exact Next.r0 q
  | succ h => exact Next.r h q
theorem next_bwd (s : Fin 6) (q : Fin 4) : Next (Xfer.bwdOf s.castSucc q) (Xfer.bwdOf s.succ q) := by
  induction s using Fin.cases with
  | zero => exact Next.l0 q
  | succ h => exact Next.l h q

theorem ring_fwd (c : Dev nD) :
    iprop((bigSep Finset.univ fun p : Fin 8 × Fin 4 => keep m c (Xfer.fwdOf p.1 p.2)) ∗ bigSep Finset.univ fun p : Fin 8 × Fin 4 => sentPay m c (Xfer.fwdOf p.1 p.2))
      ⊢ iprop((bigSep Finset.univ fun p : Fin 8 × Fin 4 => gotPay m c (Xfer.fwdOf p.1 p.2)) ∗ bigSep Finset.univ fun q : Fin 4 => sentPay m c (.r0 q)) := by
  rw [bigSep_univ_prod, bigSep_univ_prod, bigSep_univ_prod]
  refine along (B := fun s : Fin 8 => bigSep Finset.univ fun q : Fin 4 => sentPay m c (Xfer.fwdOf s q)) (fun s => ?_) (BI.Entails.refl _)
  rw [← bigSep_sep']
  exact bigSep_mono fun q _ => next_keep m c (next_fwd s q)
theorem ring_bwd (c : Dev nD) :
    iprop((bigSep Finset.univ fun p : Fin 7 × Fin 4 => keep m c (Xfer.bwdOf p.1 p.2)) ∗ bigSep Finset.univ fun p : Fin 7 × Fin 4 => sentPay m c (Xfer.bwdOf p.1 p.2))
      ⊢ iprop((bigSep Finset.univ fun p : Fin 7 × Fin 4 => gotPay m c (Xfer.bwdOf p.1 p.2)) ∗ bigSep Finset.univ fun q : Fin 4 => sentPay m c (.l0 q)) := by
  rw [bigSep_univ_prod, bigSep_univ_prod, bigSep_univ_prod]
  refine along (B := fun s : Fin 7 => bigSep Finset.univ fun q : Fin 4 => sentPay m c (Xfer.bwdOf s q)) (fun s => ?_) (BI.Entails.refl _)
  rw [← bigSep_sep']
  exact bigSep_mono fun q _ => next_keep m c (next_bwd s q)

/-- The buffers whole again. -/
theorem restore (c : Dev nD) :
    iprop((bigSep Finset.univ (keep m c)) ∗ (bigSep Finset.univ (sentPay m c)) ∗ pair m c fullShare.right.right ∗ rAside (F := F) c ∗ lAside (F := F) c)
      ⊢ iprop(pair m c fullShare ∗ rWhole (F := F) c ∗ lWhole (F := F) c) := by
  rw [bigSep_sides (keep m c), bigSep_sides (sentPay m c)]
  iintro ⟨⟨HkF, HkB⟩, ⟨HsF, HsB⟩, Hp, Hr, Hl⟩
  ihave HF := (ring_fwd m c) $$ [HkF HsF]
  · isplitl [HkF] <;> iassumption
  ihave HB := (ring_bwd m c) $$ [HkB HsB]
  · isplitl [HkB] <;> iassumption
  icases HF with ⟨HF, HF0⟩
  icases HB with ⟨HB, HB0⟩
  isplitl [HF0 HB0 Hp]
  · iapply (pair_split m c).2
    isplitl [HF0]; · iexact HF0
    isplitl [HB0]; · iexact HB0
    iexact Hp
  isplitl [HF Hr]
  · iapply (join_fwd m c)
    isplitl [HF] <;> iassumption
  · iapply (join_bwd m c)
    isplitl [HB] <;> iassumption

/-! ## The cells closed -/

theorem close_cell (c : Dev nD) (k : Cell) : iprop(known m K ∗ atPos ER (kcell (c, k)) 1 ∅ 0) ⊢ |={Set.univ}=> (semVal (kcell (c, k)) 0 : sProp 𝕄) := by
  refine BIBase.Entails.trans ?_ (Rounds.cell_close ER (sched m) (Set.mem_univ (K (c, k))) (fun h => h) (R := 0 + 1) (duties_later m (kcell (c, k))))
  iintro ⟨#HK, Hat⟩
  isplitr
  · iapply (known_inv m K (c, k)); iexact HK
  · iexact Hat

/-- A device's cells: the barrier's, those of departures, those of landings. -/
def cellSides : PUnit.{1} ⊕ (Xfer ⊕ Xfer) ≃ Cell where
  toFun
    | .inl _ => none
    | .inr k => some k
  invFun
    | none => .inl ⟨⟩
    | some k => .inr k
  left_inv := by rintro (_ | _) <;> rfl
  right_inv := by rintro (_ | _) <;> rfl

theorem bigSep_cells (Φ : Cell → sProp 𝕄) : bigSep Finset.univ Φ
    = iprop(Φ none ∗ (bigSep Finset.univ fun t => Φ (some (.inl t))) ∗ bigSep Finset.univ fun t => Φ (some (.inr t))) := by
  rw [bigSep_univ_equiv cellSides Φ, bigSep_univ_sum, bigSep_univ_sum, bigSep_univ_of_subsingleton PUnit.unit]
  rfl

theorem close_all (c : Dev nD) : iprop(known m K ∗ bigSep Finset.univ fun k : Cell => (atPos ER (kcell (c, k)) 1 ∅ 0 : sProp 𝕄))
    ⊢ |={Set.univ}=> bigSep Finset.univ fun k : Cell => (semVal (kcell (c, k)) 0 : sProp 𝕄) :=
  (bigSep_with_persistent fun k _ => close_cell m K c k).trans (bigSep_fupd _ _)

end Cert.Moe

end
-- ==== Proof.Body.lean ====
/-
The whole body on one device, at a symbolic device.

From what the launch deals it and its staged inputs, a device ends with its buffers whole, every cell closed at zero,
and the staged result holding `outAt`.
-/
module

public import proofs.«01_k».proof.Proof.Drain

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-! ## Staged inputs and the result -/

/-- The staged tokens, router weights, routes and shared expert of device `c`. -/
def xAt (c : Dev nD) : (cc0_stg0_0 : Ref sig .tc).ty.Contents (Elt F) := (win0_0.blk (0 : Fin 1)).view.read (Elt F) (m ((c : Thread nD τ).loc main_arg0))
def rwAt (c : Dev nD) : (cc0_stg1_0 : Ref sig .tc).ty.Contents (Elt F) := (win0_1.blk (0 : Fin 1)).view.read (Elt F) (m ((c : Thread nD τ).loc main_arg1))
def ixAt (c : Dev nD) : (cc0_stg2_0 : Ref sig .tc).ty.Contents (Elt F) := (win0_2.blk (0 : Fin 1)).view.read (Elt F) (m ((c : Thread nD τ).loc main_arg2))
def swAt (c : Dev nD) : (cc0_stg4_0 : Ref sig .tc).ty.Contents (Elt F) := (win0_4.blk (0 : Fin 1)).view.read (Elt F) (m ((c : Thread nD τ).loc main_arg4))

/-- The sum before the first hop, and one hop's sum from the one before, at the staged inputs. -/
def startAt (c : Dev nD) : FVec F S256x256 .f32 := acc0 c (xAt m c) (ixAt m c) (rwAt m c) (swAt m c) (pairAt m c)
def hopAt (c : Dev nD) (h : Fin 7) (acc : FVec F S256x256 .f32) : FVec F S256x256 .f32 :=
  stepAt m c h (xAt m c) (ixAt m c) (weight (xAt m c) (ixAt m c) (rwAt m c)) acc
/-- What device `c` stores. -/
def outAt (c : Dev nD) : FVec F S256x256 .f32 :=
  rAdd c 7 (xAt m c) (ixAt m c) (weight (xAt m c) (ixAt m c) (rwAt m c))
    (hopAt m c 6 (hopAt m c 5 (hopAt m c 4 (hopAt m c 3 (hopAt m c 2 (hopAt m c 1 (hopAt m c 0 (startAt m c)))))))) (rRead m c 8)

def outPts (c : Dev nD) (f : Buf (Elt F) ((c : Thread nD τ).loc cc0_stg5_0)) : sProp 𝕄 := (c : Thread nD τ).loc cc0_stg5_0 ↦{fullShare} f
/-- The staging buffers, the pair apart. -/
def inputs (c : Dev nD) : sProp 𝕄 :=
  iprop(((c : Thread nD τ).loc cc0_stg0_0 ↦{fullShare} xAt m c) ∗ ((c : Thread nD τ).loc cc0_stg1_0 ↦{fullShare} rwAt m c)
    ∗ ((c : Thread nD τ).loc cc0_stg2_0 ↦{fullShare} ixAt m c) ∗ ((c : Thread nD τ).loc cc0_stg4_0 ↦{fullShare} swAt m c))
/-- What the loads and the store between the first start and the drain use. -/
def Stg (c : Dev nD) (f : Buf (Elt F) ((c : Thread nD τ).loc cc0_stg5_0)) : sProp 𝕄 :=
  iprop(inputs m c ∗ pair m c fullShare.right.right ∗ outPts (F := F) c f)

theorem zero2 : (![0, 0] : Fin 2 → Nat) = fun _ => 0 := funext fun a => by fin_cases a <;> rfl
theorem zero3 : (![0, 0, 0] : Fin 3 → Nat) = fun _ => 0 := funext fun a => by fin_cases a <;> rfl

section Access
variable (c : Dev nD) (f : Buf (Elt F) ((c : Thread nD τ).loc cc0_stg5_0))

theorem loadX_spec : Stg m c f ⊢ wpB c loadX fun v => iprop(⌜v = xAt m c⌝ ∗ Stg m c f) := by
  unfold Stg inputs loadX Prog.lift
  iintro ⟨⟨H0, H1, H2, H4⟩, H⟩
  iapply (wp_load 𝒱₀ (c : Thread nD τ) none Set.univ (m := xM) (Finset.subset_univ _)) $$ H0; iintro H0
  rw [wp_ret]; imodintro
  isplitr; · ipureintro; exact Memref.readAt_unit_zero (Elt F) cc0_stg0_0 zero2 _ _
  isplitr [H]
  · isplitl [H0]; · iexact H0
    isplitl [H1]; · iexact H1
    isplitl [H2]; · iexact H2
    iexact H4
  · iexact H
theorem loadRw_spec : Stg m c f ⊢ wpB c loadRw fun v => iprop(⌜v = rwAt m c⌝ ∗ Stg m c f) := by
  unfold Stg inputs loadRw Prog.lift
  iintro ⟨⟨H0, H1, H2, H4⟩, H⟩
  iapply (wp_load 𝒱₀ (c : Thread nD τ) none Set.univ (m := rwM) (Finset.subset_univ _)) $$ H1; iintro H1
  rw [wp_ret]; imodintro
  isplitr; · ipureintro; exact Memref.readAt_unit_zero (Elt F) cc0_stg1_0 zero2 _ _
  isplitr [H]
  · isplitl [H0]; · iexact H0
    isplitl [H1]; · iexact H1
    isplitl [H2]; · iexact H2
    iexact H4
  · iexact H
theorem loadIx_spec : Stg m c f ⊢ wpB c loadIx fun v => iprop(⌜v = ixAt m c⌝ ∗ Stg m c f) := by
  unfold Stg inputs loadIx Prog.lift
  iintro ⟨⟨H0, H1, H2, H4⟩, H⟩
  iapply (wp_load 𝒱₀ (c : Thread nD τ) none Set.univ (m := ixM) (Finset.subset_univ _)) $$ H2; iintro H2
  rw [wp_ret]; imodintro
  isplitr; · ipureintro; exact Memref.readAt_unit_zero (Elt F) cc0_stg2_0 zero2 _ _
  isplitr [H]
  · isplitl [H0]; · iexact H0
    isplitl [H1]; · iexact H1
    isplitl [H2]; · iexact H2
    iexact H4
  · iexact H
theorem loadSw_spec : Stg m c f ⊢ wpB c loadSw fun v => iprop(⌜v = swAt m c⌝ ∗ Stg m c f) := by
  unfold Stg inputs loadSw Prog.lift
  iintro ⟨⟨H0, H1, H2, H4⟩, H⟩
  iapply (wp_load 𝒱₀ (c : Thread nD τ) none Set.univ (m := swM) (Finset.subset_univ _)) $$ H4; iintro H4
  rw [wp_ret]; imodintro
  isplitr; · ipureintro; exact Memref.readAt_unit_zero (Elt F) cc0_stg4_0 zero2 _ _
  isplitr [H]
  · isplitl [H0]; · iexact H0
    isplitl [H1]; · iexact H1
    isplitl [H2]; · iexact H2
    iexact H4
  · iexact H
theorem loadEw_spec : Stg m c f ⊢ wpB c loadEw fun v => iprop(⌜v = pairAt m c⌝ ∗ Stg m c f) := by
  unfold Stg pair loadEw Prog.lift
  iintro ⟨H, H3, H5⟩
  iapply (wp_load 𝒱₀ (c : Thread nD τ) none Set.univ (m := ewM) (Finset.subset_univ _)) $$ H3; iintro H3
  rw [wp_ret]; imodintro
  isplitr; · ipureintro; exact Memref.readAt_unit_zero (Elt F) cc0_stg3_0 zero3 _ _
  isplitl [H]; · iexact H
  isplitl [H3] <;> iassumption
theorem loadOut_spec : Stg m c f ⊢ wpB c loadOut fun _ => Stg m c f := by
  unfold Stg outPts loadOut Prog.lift
  iintro ⟨H, H3, H5⟩
  iapply (wp_load 𝒱₀ (c : Thread nD τ) none Set.univ (m := outM) (Finset.subset_univ _)) $$ H5; iintro H5
  rw [wp_ret]; imodintro
  isplitl [H]; · iexact H
  isplitl [H3] <;> iassumption
theorem storeOut_spec (v : FVec F S256x256 .f32) : Stg m c f ⊢ wpB c (storeOut v) fun _ => Stg m c v := by
  unfold Stg outPts storeOut Prog.lift
  iintro ⟨H, H3, H5⟩
  iapply (wp_store 𝒱₀ (c : Thread nD τ) none Set.univ (m := outM) (r := Rect.unit (s := S256x256) ![0, 0] S256x256.size inb_S256x256_S256x256_0_0)
    (Mk := Finset.univ) (Finset.subset_univ _)) $$ H5; iintro H5
  rw [show ((outM : Memref sig .tc .vmem S256x256 .f32).access (Rect.unit (s := S256x256) ![0, 0] S256x256.size inb_S256x256_S256x256_0_0) : View sig .tc _ _ _).write
    (Elt F) f v Finset.univ = v from Memref.write_access_unit_zero_univ (Elt F) cc0_stg5_0 zero2 _ f v]
  rw [wp_ret]; imodintro
  isplitl [H]; · iexact H
  isplitl [H3] <;> iassumption
end Access

/-! ## The first starts -/

theorem start0_spec (c : Dev nD) (t : Xfer) {n r : ℕ} (hn : t.ord = n) (ho : onward m c t = iprop(emp)) :
    St m K c n r ⊢ wpB c (startP (t.dest c) t) fun _ => St m K c (n + 1) r := by
  refine BIBase.Entails.trans ?_ (start_spec m K c t hn)
  rw [ho]; exact Laws.sep_emp.2

theorem begin_spec (c : Dev nD) : St m K c 0 0 ⊢ wpB c (begin c) fun _ => St m K c 8 0 := by
  unfold begin
  rw [nxtW_eq, prvW_eq]
  exact seq (start0_spec m K c (.r0 0) rfl rfl) (seq (start0_spec m K c (.r0 1) rfl rfl) (seq (start0_spec m K c (.r0 2) rfl rfl) (seq (start0_spec m K c (.r0 3) rfl rfl)
    (seq (start0_spec m K c (.l0 0) rfl rfl) (seq (start0_spec m K c (.l0 1) rfl rfl) (seq (start0_spec m K c (.l0 2) rfl rfl) (start0_spec m K c (.l0 3) rfl rfl)))))))

theorem bigSep_cases (Φ : Xfer → sProp 𝕄) : bigSep Finset.univ Φ
    = iprop(((bigSep Finset.univ fun q : Fin 4 => Φ (.r0 q)) ∗ bigSep Finset.univ fun p : Fin 7 × Fin 4 => Φ (.r p.1 p.2))
      ∗ (bigSep Finset.univ fun q : Fin 4 => Φ (.l0 q)) ∗ bigSep Finset.univ fun p : Fin 6 × Fin 4 => Φ (.l p.1 p.2)) := by
  rw [bigSep_univ_equiv Xfer.cases, bigSep_univ_sum, bigSep_univ_sum, bigSep_univ_sum]; rfl

theorem firsts (c : Dev nD) : iprop((bigSep Finset.univ fun q : Fin 4 => sentPay m c (.r0 q)) ∗ bigSep Finset.univ fun q : Fin 4 => sentPay m c (.l0 q))
    ⊢ bigSep Finset.univ (first m c) := by
  rw [bigSep_cases,
    show (bigSep Finset.univ fun p : Fin 7 × Fin 4 => first m c (.r p.1 p.2)) = (iprop(emp) : sProp 𝕄) from bigSep_emp_const _,
    show (bigSep Finset.univ fun p : Fin 6 × Fin 4 => first m c (.l p.1 p.2)) = (iprop(emp) : sProp 𝕄) from bigSep_emp_const _]
  iintro ⟨H1, H2⟩
  isplitl [H1]
  · isplitl [H1]
    · iexact H1
    · iempintro
  · isplitl [H2]
    · iexact H2
    · iempintro

/-! ## The body -/

/-- What a device keeps aside from the first start to the drain. -/
def Rem (c : Dev nD) : sProp 𝕄 :=
  iprop(atPos ER (barCell c) 1 ∅ 0 ∗ (bigSep Finset.univ fun t : Xfer => atPos ER (sentCell c t) 0 ∅ 0) ∗ rAside (F := F) c ∗ lAside (F := F) c)

/-- What the launch deals a device. -/
def Dealt (c : Dev nD) : sProp 𝕄 :=
  iprop(known m K ∗ dutyTok ER (barCell (prv c)) 0 true ∗ dutyTok ER (barCell (nxt c)) 0 false
    ∗ cred (tallyAt (barCell c) () 2) ∗ atPos ER (barCell c) 0 ∅ 0
    ∗ (bigSep Finset.univ fun t : Xfer => toks (F := F) c t) ∗ (bigSep Finset.univ fun t : Xfer => toGet (F := F) c t)
    ∗ (bigSep Finset.univ fun t : Xfer => atPos ER (sentCell c t) 0 ∅ 0))

theorem framedv {c : Dev nD} {α : Type} {Pre R A : sProp 𝕄} {p : P F α} {φ : α → Prop} (h : Pre ⊢ wpB c p fun v => iprop(⌜φ v⌝ ∗ R)) :
    iprop(Pre ∗ A) ⊢ wpB c p fun v => iprop(⌜φ v⌝ ∗ (R ∗ A)) := by
  refine (framed h).trans (wp_mono _ _ _ fun v => ?_)
  iintro ⟨⟨%e, HR⟩, HA⟩
  isplitr
  · ipureintro; exact e
  isplitl [HR] <;> iassumption

theorem atStg {c : Dev nD} {α : Type} {S T X A : sProp 𝕄} {p : P F α} {φ : α → Prop} (h : S ⊢ wpB c p fun v => iprop(⌜φ v⌝ ∗ T)) :
    iprop(X ∗ S ∗ A) ⊢ wpB c p fun v => iprop(⌜φ v⌝ ∗ (X ∗ T ∗ A)) := by
  have e : iprop(X ∗ S ∗ A) ⊢ iprop(S ∗ (X ∗ A)) := by
    iintro ⟨HX, HS, HA⟩
    isplitl [HS]; · iexact HS
    isplitl [HX] <;> iassumption
  refine e.trans ((framedv h).trans (wp_mono _ _ _ fun v => ?_))
  iintro ⟨%e, HT, HX, HA⟩
  isplitr
  · ipureintro; exact e
  isplitl [HX]; · iexact HX
  isplitl [HT] <;> iassumption

theorem plain {c : Dev nD} {α : Type} {S T : sProp 𝕄} {p : P F α} (h : S ⊢ wpB c p fun _ => T) : S ⊢ wpB c p fun _ => iprop(⌜True⌝ ∗ T) :=
  h.trans (wp_mono _ _ _ fun _ => by
    iintro H
    isplitr
    · ipureintro; trivial
    · iexact H)
theorem seqp {c : Dev nD} {α β : Type} {Pre R : sProp 𝕄} {p : P F β} {k : β → P F α} {Q : α → sProp 𝕄}
    (h₁ : Pre ⊢ wpB c p fun _ => iprop(⌜True⌝ ∗ R)) (h₂ : ∀ b, R ⊢ wpB c (k b) Q) : Pre ⊢ wpB c (p >>= k) Q := by
  unfold wpB; rw [wp_bind]
  refine h₁.trans (wp_mono _ _ _ fun b => ?_)
  iintro ⟨-, HR⟩
  iapply (h₂ b); iexact HR

/-- The state after the handshake. -/
theorem met (c : Dev nD) (f : Buf (Elt F) ((c : Thread nD τ).loc cc0_stg5_0)) :
    iprop((known m K ∗ (∃ W, owes (c : Thread nD τ) (owing c 0) W) ∗ atPos ER (barCell c) 1 ∅ 0
        ∗ (bigSep Finset.univ fun t : Xfer => room (F := F) (t.dest c) t) ∗ rAside (F := F) c ∗ lAside (F := F) c)
      ∗ ((bigSep Finset.univ fun t : Xfer => toks (F := F) c t) ∗ (bigSep Finset.univ fun t : Xfer => toGet (F := F) c t)
        ∗ (bigSep Finset.univ fun t : Xfer => atPos ER (sentCell c t) 0 ∅ 0) ∗ inputs m c ∗ pair m c fullShare ∗ outPts (F := F) c f))
      ⊢ iprop(St m K c 0 0 ∗ Stg m c f ∗ Rem (F := F) c) := by
  unfold St Stg Rem
  rw [from'_zero, from'_zero, upto_zero, upto_zero]
  unfold toStart
  rw [bigSep_sep', bigSep_sep']
  iintro ⟨⟨#HK, HO, Hbar, Hroom, Hr, Hl⟩, Htoks, Hget, Hsent, Hin, Hpair, Hout⟩
  ihave Hp := (pair_split m c).1 $$ Hpair
  icases Hp with ⟨H1, H2, H3⟩
  ihave Hf := (firsts m c) $$ [H1 H2]
  · isplitl [H1] <;> iassumption
  isplitl [HO Hroom Htoks Hget Hf]
  · isplitr; · iexact HK
    isplitl [HO]; · iexact HO
    isplitl [Htoks Hroom Hf]
    · isplitl [Htoks]; · iexact Htoks
      isplitl [Hroom] <;> iassumption
    isplitr; · iempintro
    isplitl [Hget]; · iexact Hget
    iempintro
  isplitl [Hin H3 Hout]
  · isplitl [Hin]; · iexact Hin
    isplitl [H3] <;> iassumption
  isplitl [Hbar]; · iexact Hbar
  isplitl [Hsent]; · iexact Hsent
  isplitl [Hr] <;> iassumption

/-- What is kept while draining. -/
def Rem' (c : Dev nD) : sProp 𝕄 :=
  iprop(atPos ER (barCell c) 1 ∅ 0 ∗ (bigSep Finset.univ (keep m c)) ∗ (bigSep Finset.univ fun t : Xfer => atPos ER (gotCell c t) 1 ∅ 0)
    ∗ rAside (F := F) c ∗ lAside (F := F) c)

theorem toDrain (c : Dev nD) (f : Buf (Elt F) ((c : Thread nD τ).loc cc0_stg5_0)) :
    iprop(St m K c 60 60 ∗ Stg m c f ∗ Rem (F := F) c) ⊢ iprop(Dr m K c 0 ∗ Stg m c f ∗ Rem' m c) := by
  unfold St Dr Rem Rem'
  rw [from'_all ord_lt, from'_all rord_lt, upto_all ord_lt, upto_all rord_lt, from'_zero, upto_zero, owing_all]
  unfold gotten toLeave
  rw [bigSep_sep', bigSep_sep']
  iintro ⟨⟨#HK, HO, -, Hsend, -, Hkeep, Hgot⟩, Hstg, Hbar, Hsent, Hr, Hl⟩
  isplitl [HO Hsend Hsent]
  · isplitr; · iexact HK
    isplitl [HO]; · iexact HO
    isplitl [Hsend Hsent]
    · isplitl [Hsend] <;> iassumption
    iempintro
  isplitl [Hstg]; · iexact Hstg
  isplitl [Hbar]; · iexact Hbar
  isplitl [Hkeep]; · iexact Hkeep
  isplitl [Hgot]; · iexact Hgot
  isplitl [Hr] <;> iassumption

/-- What a device ends with. -/
def Done (c : Dev nD) : sProp 𝕄 :=
  iprop((∃ W, owes (c : Thread nD τ) 0 W) ∗ inputs m c ∗ pair m c fullShare ∗ outPts (F := F) c (outAt m c) ∗ rWhole (F := F) c ∗ lWhole (F := F) c
    ∗ bigSep Finset.univ fun k : Cell => (semVal (kcell (c, k)) 0 : sProp 𝕄))

theorem finish (c : Dev nD) : iprop(Dr m K c 60 ∗ Stg m c (outAt m c) ∗ Rem' m c) ⊢ |={Set.univ}=> Done m c := by
  unfold Dr Stg Rem' Done
  rw [from'_all ord_lt, upto_all ord_lt]
  unfold gone
  rw [bigSep_sep']
  iintro ⟨⟨#HK, HO, -, Hpay, Hsent⟩, ⟨Hin, Hpair, Hout⟩, Hbar, Hkeep, Hgot, Hr, Hl⟩
  ihave Hres := (restore m c) $$ [Hkeep Hpay Hpair Hr Hl]
  · isplitl [Hkeep]; · iexact Hkeep
    isplitl [Hpay]; · iexact Hpay
    isplitl [Hpair]; · iexact Hpair
    isplitl [Hr] <;> iassumption
  icases Hres with ⟨Hpair, Hr, Hl⟩
  imod (close_all m K c) $$ [Hbar Hsent Hgot] with Hz
  · isplitr; · iexact HK
    rw [bigSep_cells]
    isplitl [Hbar]; · iexact Hbar
    isplitl [Hsent] <;> iassumption
  imodintro
  isplitl [HO]; · iexact HO
  isplitl [Hin]; · iexact Hin
  isplitl [Hpair]; · iexact Hpair
  isplitl [Hout]; · iexact Hout
  isplitl [Hr]; · iexact Hr
  isplitl [Hl] <;> iassumption

/-- The body from the first start to the store, then `k`. -/
def middleP (c : Dev nD) (k : P F PUnit) : P F PUnit := do
  begin c
  let x ← loadX
  let ix ← loadIx
  let rw' ← loadRw
  let sw ← loadSw
  let ew ← loadEw
  let a0 ← hop0 c x ix (weight x ix rw') (acc0 c x ix rw' sw ew)
  let a1 ← hop c 0 x ix (weight x ix rw') a0
  let a2 ← hop c 1 x ix (weight x ix rw') a1
  let a3 ← hop c 2 x ix (weight x ix rw') a2
  let a4 ← hop c 3 x ix (weight x ix rw') a3
  let a5 ← hop c 4 x ix (weight x ix rw') a4
  let a6 ← hop6 c x ix (weight x ix rw') a5
  let a7 ← hop7 c x ix (weight x ix rw') a6
  let _ ← loadOut
  storeOut a7
  k

theorem prog_eq : (prog : P F PUnit) = (Prog.lift .deviceId >>= fun c => (meet c >>= fun _ => middleP c drain)) := rfl

theorem middle (c : Dev nD) (f : Buf (Elt F) ((c : Thread nD τ).loc cc0_stg5_0)) {k : P F PUnit} {Q : PUnit → sProp 𝕄}
    (hk : iprop(Dr m K c 0 ∗ Stg m c (outAt m c) ∗ Rem' m c) ⊢ wpB c k Q) :
    iprop(St m K c 0 0 ∗ Stg m c f ∗ Rem (F := F) c) ⊢ wpB c (middleP c k) Q := by
  unfold middleP
  exact
  seq (framed (begin_spec m K c)) <| seqv (atStg (loadX_spec m c f)) <| seqv (atStg (loadIx_spec m c f)) <| seqv (atStg (loadRw_spec m c f)) <|
  seqv (atStg (loadSw_spec m c f)) <| seqv (atStg (loadEw_spec m c f)) <| seqv (framedv (hop0_spec m K c _ _ _ _)) <|
  seqv (framedv (hop_spec m K c 0 _ _ _ _ rfl rfl)) <| seqv (framedv (hop_spec m K c 1 _ _ _ _ rfl rfl)) <| seqv (framedv (hop_spec m K c 2 _ _ _ _ rfl rfl)) <|
  seqv (framedv (hop_spec m K c 3 _ _ _ _ rfl rfl)) <| seqv (framedv (hop_spec m K c 4 _ _ _ _ rfl rfl)) <| seqv (framedv (hop6_spec m K c _ _ _ _)) <|
  seqv (framedv (hop7_spec m K c _ _ _ _)) <| seqp (atStg (plain (loadOut_spec m c f))) fun _ =>
  seqp (atStg (plain (storeOut_spec m c f _))) fun _ => (toDrain m K c (outAt m c)).trans hk

theorem seqc {c : Dev nD} {α : Type} {Pre R : sProp 𝕄} {p : P F PUnit} {k : P F α} {Q : α → sProp 𝕄}
    (h₁ : Pre ⊢ wpB c p fun _ => R) (h₂ : R ⊢ wpB c k Q) : Pre ⊢ wpB c (p >>= fun _ => k) Q := seq h₁ h₂

theorem updated {c : Dev nD} {α : Type} {S : sProp 𝕄} {p : P F α} {Q : α → sProp 𝕄} (h : S ⊢ wpB c p fun a => iprop(|={Set.univ}=> Q a)) : S ⊢ wpB c p Q :=
  h.trans (wp_fupd frame (wpE (defs₀ (F := F)) 𝒱₀ (c : Thread nD τ) none) Set.univ p Q)

theorem ending (c : Dev nD) : iprop(Dr m K c 0 ∗ Stg m c (outAt m c) ∗ Rem' m c) ⊢ wpB c drain fun _ => Done m c := by
  have h : iprop(Dr m K c 0 ∗ Stg m c (outAt m c) ∗ Rem' m c) ⊢ wpB c drain fun _ => iprop(|={Set.univ}=> Done m c) :=
    (framed (drain_spec m K c)).trans (wp_mono _ _ _ fun _ => finish m K c)
  exact updated h

theorem onDevice {c : Dev nD} {α : Type} {S : sProp 𝕄} {k : Dev nD → P F α} {Q : α → sProp 𝕄} (h : S ⊢ wpB c (k c) Q) :
    S ⊢ wpB c (Prog.lift .deviceId >>= k) Q := by
  simp only [Prog.lift, Prog.bind_op, Prog.bind_ret, wp_deviceId]; exact h

theorem body_spec (c : Dev nD) (f : Buf (Elt F) ((c : Thread nD τ).loc cc0_stg5_0)) :
    iprop(Dealt m K c ∗ (∃ W, owes (c : Thread nD τ) (owed₀ c) W) ∗ rWhole (F := F) c ∗ lWhole (F := F) c ∗ inputs m c ∗ pair m c fullShare ∗ outPts (F := F) c f)
      ⊢ wpB c prog fun _ => Done m c := by
  rw [prog_eq]
  refine onDevice ?_
  have h₁ := middle m K c f (ending m K c)
  have h₂ := (met m K c f).trans h₁
  have h₃ := seqc (framed (meet_spec m K c)) h₂
  refine BIBase.Entails.trans ?_ h₃
  unfold Dealt
  iintro ⟨⟨HK, HtP, HtN, HcB, Hbar, Htoks, Hget, Hsent⟩, HO, Hr, Hl, H⟩
  isplitl [HK HtP HtN HcB Hbar HO Hr Hl]
  · isplitl [HK]; · iexact HK
    isplitl [HO]; · iexact HO
    isplitl [HtP]; · iexact HtP
    isplitl [HtN]; · iexact HtN
    isplitl [HcB]; · iexact HcB
    isplitl [Hbar]; · iexact Hbar
    isplitl [Hr] <;> iassumption
  isplitl [Htoks]; · iexact Htoks
  isplitl [Hget]; · iexact Hget
  isplitl [Hsent]; · iexact Hsent
  iexact H

end Cert.Moe

end
-- ==== Proof.Deal.lean ====
/-
What the launch hands out.

The cells and duty tokens minted at launch are dealt to the devices: each device takes the tokens of the duties it
pays, which lie at its neighbours' cells, and the credit that its own cells will be paid.
-/
module

public import proofs.«01_k».proof.Proof.Body

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and tokens at launch -/

/-- The kernel's own semaphores. -/
abbrev osem (k : Xfer ⊕ Xfer) : SemLoc sig := csem (some k)

theorem ownSemFacts : Pipeline.OwnSemFacts cfg0.spec osem where
  isScoped := by decide
  inj := fun _ _ h => Option.some.inj (csem_injective h)
  disj := fun k w s h => by
    have hw : ∀ (w : Fin cfg0.W) (s : Fin (cfg0.spec w).nbuf), kind (.dma ((cfg0.spec w).sem s)) = none := by decide
    have hk : kind (osem k) = some k := by rcases k with t | t <;> [exact kind_sent t; exact kind_got t]
    have hs : kind (.dma ((cfg0.spec w).sem s)) = none := hw w s
    rw [h, hs] at hk; cases hk

def ringCells : Finset (GSem nD τ sig) := Finset.univ.map ⟨kcell, kcell_injective⟩

/-- A token as minted: a device, and one of its cells' duties. -/
abbrev Tok : Type := Bool ⊕ (Xfer ⊕ Xfer)
abbrev tokOf (ck : Dev nD × Tok) : GSem nD τ sig × ℕ × Bool :=
  match ck.2 with
  | .inl b => (barCell ck.1, 0, b)
  | .inr k => (kcell (ck.1, some k), 0, true)
theorem tokOf_injective : Function.Injective tokOf := by
  rintro ⟨c, b | k⟩ ⟨c', b' | k'⟩ h
  · have h1 : ((c, none) : Dev nD × Cell) = (c', none) := kcell_injective (congrArg Prod.fst h)
    have h2 : b = b' := congrArg (fun x => x.2.2) h
    rw [(Prod.mk.inj h1).1, h2]
  · have h1 : ((c, none) : Dev nD × Cell) = (c', some k') := kcell_injective (congrArg Prod.fst h)
    cases (Prod.mk.inj h1).2
  · have h1 : ((c, some k) : Dev nD × Cell) = (c', none) := kcell_injective (congrArg Prod.fst h)
    cases (Prod.mk.inj h1).2
  · have h1 : ((c, some k) : Dev nD × Cell) = (c', some k') := kcell_injective (congrArg Prod.fst h)
    rw [(Prod.mk.inj h1).1, Option.some.inj (Prod.mk.inj h1).2]
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The tokens of device `c`'s own cells. -/
def ownToks (c : Dev nD) : sProp 𝕄 :=
  iprop((dutyTok ER (barCell c) 0 true ∗ dutyTok ER (barCell c) 0 false)
    ∗ (bigSep Finset.univ fun t : Xfer => dutyTok ER (sentCell c t) 0 true) ∗ bigSep Finset.univ fun t : Xfer => dutyTok ER (gotCell c t) 0 true)
/-- The tokens of the duties device `c` pays. -/
def payToks (c : Dev nD) : sProp 𝕄 :=
  iprop((dutyTok ER (barCell (prv c)) 0 true ∗ dutyTok ER (barCell (nxt c)) 0 false)
    ∗ (bigSep Finset.univ fun t : Xfer => dutyTok ER (sentCell c t) 0 true) ∗ bigSep Finset.univ fun t : Xfer => dutyTok ER (gotCell (t.dest c) t) 0 true)

/-- What the launch deals device `c` first, -/
def G (c : Dev nD) : sProp 𝕄 :=
  iprop((bigSep Finset.univ fun k : Cell => roundState ER (sched m) (kcell (c, k)) 0)
    ∗ (bigSep Finset.univ fun k : Cell => iprop(atPos ER (kcell (c, k)) 0 ∅ 0 ∗ reached ER (kcell (c, k)) 0)) ∗ ownToks c)

/-- the facts all devices share once the cells are open, -/
def records (K : Dev nD × Cell → ℕ) : sProp 𝕄 :=
  iprop((bigSep Finset.univ fun ck : Dev nD × Cell => cellInv ER (sched m) (K ck) (kcell ck))
    ∗ bigSep Finset.univ fun ck : Dev nD × Cell => reached ER (kcell ck) 0)
instance records_persistent (K : Dev nD × Cell → ℕ) : BI.Persistent (records m K) := by unfold records; infer_instance

/-- and what it holds beside them. -/
def linear (c : Dev nD) : sProp 𝕄 := iprop((bigSep Finset.univ fun k : Cell => atPos ER (kcell (c, k)) 0 ∅ 0) ∗ payToks (F := F) c)
def G' (c : Dev nD) : sProp 𝕄 := iprop(∃ K, records m K ∗ linear (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]
    exact bigSep_congr fun c _ => by
      unfold ownToks; rw [bigSep_univ_sum, bigSep_univ_sum, bigSep_univ_eq_bigSepL [true, false] (by decide) (by decide), bigSepL_cons_cons, bigSepL_singleton]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores at zero, in two families. -/
theorem ownSems0_eq (c : Dev nD) : (Pipeline.ownSems0 (Ix := Unit) (Name := ℕ) (U := UU) (Lvl := ℕ) (Val := Elt F) (τ := τ) osem c : sProp 𝕄)
    = iprop((bigSep Finset.univ fun t : Xfer => semVal (sentCell c t) 0) ∗ bigSep Finset.univ fun t : Xfer => semVal (gotCell c t) 0) := by
  unfold Pipeline.ownSems0; rw [bigSep_univ_sum]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    (bigSep Finset.univ fun k : Cell => semVal (kcell (c, k)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_cells]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (sched m) κ (kcell (c, k))))
          ∗ (bigSep Finset.univ fun k : Cell => iprop(atPos ER (kcell (c, k)) 0 ∅ 0 ∗ reached ER (kcell (c, k)) 0)) ∗ ownToks (F := F) c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Cell => semVal (kcell (c, k)) 0) ∗ bigSep Finset.univ fun k : Cell => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device and a transfer it starts, as the device and the transfer that lands there. -/
def across : Dev nD × Xfer ≃ Dev nD × Xfer where
  toFun p := (p.2.dest p.1, p.2)
  invFun p := (p.2.orig p.1, p.2)
  left_inv p := Prod.ext (Xfer.orig_dest p.2 p.1) rfl
  right_inv p := Prod.ext (Xfer.dest_orig p.2 p.1) rfl

/-- The landing tokens dealt to the devices that pay them. -/
theorem got_across : (bigSep Finset.univ fun c : Dev nD => bigSep Finset.univ fun t : Xfer => (dutyTok ER (gotCell c t) 0 true : sProp 𝕄))
    = bigSep Finset.univ fun c : Dev nD => bigSep Finset.univ fun t : Xfer => dutyTok ER (gotCell (t.dest c) t) 0 true := by
  rw [← bigSep_univ_prod (fun p : Dev nD × Xfer => (dutyTok ER (gotCell p.1 p.2) 0 true : sProp 𝕄)),
    ← bigSep_univ_prod (fun p : Dev nD × Xfer => (dutyTok ER (gotCell (p.2.dest p.1) p.2) 0 true : sProp 𝕄)), bigSep_univ_equiv across]
  rfl

theorem toks_around : (bigSep Finset.univ fun c : Dev nD => (ownToks c : sProp 𝕄)) = bigSep Finset.univ fun c : Dev nD => payToks c := by
  unfold ownToks payToks
  rw [bigSep_sep', bigSep_sep', bigSep_sep', bigSep_sep', bigSep_sep', bigSep_sep', got_across,
    bigSep_univ_equiv turn.symm (fun c : Dev nD => (dutyTok ER (barCell c) 0 true : sProp 𝕄)),
    bigSep_univ_equiv turn (fun c : Dev nD => (dutyTok ER (barCell c) 0 false : sProp 𝕄))]
  rfl

theorem regroup :
    (bigSep Finset.univ fun c : Dev nD => iprop((bigSep Finset.univ fun k : Cell => iprop(∃ κ : ℕ, cellInv ER (sched m) κ (kcell (c, k))))
          ∗ (bigSep Finset.univ fun k : Cell => iprop(atPos ER (kcell (c, k)) 0 ∅ 0 ∗ reached ER (kcell (c, k)) 0)) ∗ ownToks c) : sProp 𝕄)
      ⊢ bigSep Finset.univ (G' m) := by
  rw [bigSep_sep', bigSep_sep', ← bigSep_univ_prod (fun ck : Dev nD × Cell => iprop(∃ κ : ℕ, cellInv ER (sched m) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄)), toks_around]
  iintro ⟨HI, ⟨Hat, #HR⟩, Htk⟩
  ihave HK := (BI.bigSep_exists_pi Finset.univ (fun (ck : Dev nD × Cell) (κ : ℕ) => (cellInv ER (sched m) κ (kcell ck) : sProp 𝕄))) $$ HI
  icases HK with ⟨%K, #HI⟩
  have hG (c : Dev nD) : iprop(records m K ∗ linear (F := F) c) ⊢ G' m c := by
    unfold G'; iintro H; iexists K; iexact H
  iapply (bigSep_with_persistent (R := records m K) fun c _ => hG c)
  isplitr
  · unfold records; isplitl; · iexact HI
    iexact HR
  · unfold linear
    rw [bigSep_sep']
    isplitl [Hat]; · iexact Hat
    iexact Htk

/-- Every device's cells opened at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem got_eq_iff {a b : Dev nD} {t u : Xfer} : gotCell a t = gotCell b u ↔ a = b ∧ t = u := by
  constructor
  · intro h
    have h1 : ((a, some (.inr t)) : Dev nD × Cell) = (b, some (.inr u)) := kcell_injective h
    exact ⟨(Prod.mk.inj h1).1, Sum.inr.inj (Option.some.inj (Prod.mk.inj h1).2)⟩
  · rintro ⟨rfl, rfl⟩; rfl
theorem bar_eq_iff {a b : Dev nD} : barCell a = barCell b ↔ a = b := by
  constructor
  · intro h
    have h1 : ((a, none) : Dev nD × Cell) = (b, none) := kcell_injective h
    exact (Prod.mk.inj h1).1
  · rintro rfl; rfl
theorem got_ne_barCell (a b : Dev nD) (t : Xfer) : gotCell a t ≠ barCell b := fun h => got_ne_bar t (congrArg Prod.snd h)

theorem owing_bar (d c : Dev nD) : owing d 0 (barCell c) () = 0 := by
  by_contra h
  obtain ⟨t, -, ht⟩ := owing_pos (Nat.pos_of_ne_zero h)
  exact got_ne_barCell _ _ t ht.symm
theorem owing_got (d c : Dev nD) (t : Xfer) : owing d 0 (gotCell c t) () = if d = t.orig c then N else 0 := by
  unfold owing
  rw [Finset.sum_apply, Finsupp.finsetSum_apply, Finset.sum_eq_single t]
  · rw [tallyAt_apply]
    by_cases h : d = t.orig c
    · rw [if_pos h, h, Xfer.dest_orig, if_pos ⟨rfl, rfl⟩]
    · rw [if_neg h, if_neg fun h' => h ?_]
      rw [(got_eq_iff.mp h'.1).1, Xfer.orig_dest]
  · intro u _ hu
    rw [tallyAt_apply, if_neg fun h' => hu (got_eq_iff.mp h'.1).2.symm]
  · intro h; exact absurd (Finset.mem_filter.mpr ⟨Finset.mem_univ t, Nat.zero_le _⟩) h

theorem owed_bar (d c : Dev nD) : owed₀ d (barCell c) () = (if d = prv c then 1 else 0) + (if d = nxt c then 1 else 0) := by
  unfold owed₀ owed₁
  rw [Pi.add_apply, Finsupp.add_apply, Pi.add_apply, Finsupp.add_apply, owing_bar, tallyAt_apply, tallyAt_apply, Nat.zero_add]
  congr 1
  · by_cases h : d = prv c
    · subst h; rw [nxt_prv, if_pos ⟨rfl, rfl⟩, if_pos rfl]
    · rw [if_neg (fun ⟨h1, _⟩ => h (by rw [bar_eq_iff.mp h1, prv_nxt])), if_neg h]
  · by_cases h : d = nxt c
    · subst h; rw [prv_nxt, if_pos ⟨rfl, rfl⟩, if_pos rfl]
    · rw [if_neg (fun ⟨h1, _⟩ => h (by rw [bar_eq_iff.mp h1, nxt_prv])), if_neg h]

theorem owed_got (d c : Dev nD) (t : Xfer) : owed₀ d (gotCell c t) () = if d = t.orig c then N else 0 := by
  unfold owed₀ owed₁
  rw [Pi.add_apply, Finsupp.add_apply, Pi.add_apply, Finsupp.add_apply, owing_got, tallyAt_ne_cell (got_ne_barCell _ _ t), tallyAt_ne_cell (got_ne_barCell _ _ t),
    Finsupp.zero_apply, Nat.add_zero, Nat.add_zero]

theorem launch_bar (c : Dev nD) :
    tallyOn (barCell c) (launchCredit (Pipeline.owing owed₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_got (c : Dev nD) (t : Xfer) :
    tallyOn (gotCell c t) (launchCredit (Pipeline.owing owed₀) 0 (gotCell c t)) = (tallyAt (gotCell c t) () N : CellTallies nD τ sig Unit) := by
  unfold tallyAt; refine congrArg _ (Finsupp.ext fun u => ?_); cases u
  rw [Pipeline.launchCredit_owing, Finsupp.single_eq_same, Finset.sum_congr rfl fun d _ => owed_got d c t, Finset.sum_ite_eq' Finset.univ (t.orig c) fun _ => N,
    if_pos (Finset.mem_univ _)]

theorem family {I J : Type} [DecidableEq I] (e : J ↪ I) {S : Finset I} {T : Finset J} (h : T.map e ⊆ S) (Φ : I → sProp 𝕄) :
    bigSep S Φ ⊢ bigSep T fun j => Φ (e j) := by
  rw [show bigSep S Φ = iprop(bigSep T (fun j => Φ (e j)) ∗ bigSep (S \ T.map e) Φ) from by rw [bigSep_sdiff_split h, bigSep_map]; rfl]
  iintro ⟨H, -⟩; iexact H

theorem creds (c : Dev nD) :
    (Pipeline.launchCred owed₀ c : sProp 𝕄) ⊢ iprop(cred (tallyAt (barCell c) () 2) ∗ bigSep Finset.univ fun t : Xfer => cred (tallyAt (gotCell c t) () N)) := by
  unfold Pipeline.launchCred
  rw [bigSep_univ_at _ (SemLoc.reg barS), launch_bar]
  refine sep_mono_right ?_
  refine (family (⟨fun t : Xfer => SemLoc.dma t.gotS, fun t u h => (got_eq_iff (a := c) (b := c)).mp (congrArg (Prod.mk _) h) |>.2⟩ : Xfer ↪ SemLoc sig)
    (T := Finset.univ) (fun s hs => ?_) _).trans (bigSep_mono fun t _ => Entails.of_eq (congrArg cred (launch_got c t)))
  obtain ⟨t, -, rfl⟩ := Finset.mem_map.mp hs
  exact Finset.mem_erase.mpr ⟨got_ne_bar t, Finset.mem_univ _⟩

/-- A device's share of the launch. -/
theorem dealt (c : Dev nD) : iprop(levAts L lv ∗ Pipeline.launchCred owed₀ c ∗ G' m c) ⊢ iprop(∃ K, Dealt m K c) := by
  unfold G' records linear payToks
  iintro ⟨Hlev, Hcr, %K, ⟨HI, HR⟩, Hat, ⟨HtP, HtN⟩, Hsent, Hgot⟩
  ihave Hc := (creds (F := F) c) $$ Hcr
  icases Hc with ⟨HcB, HcG⟩
  ihave Hat := (Entails.of_eq (bigSep_cells (F := F) _)) $$ Hat
  icases Hat with ⟨HaB, HaS, HaG⟩
  iexists K
  unfold Dealt known toks toGet
  rw [bigSep_sep', bigSep_sep']
  isplitl [HI HR Hlev]
  · isplitl [HI]; · iexact HI
    isplitl [HR] <;> iassumption
  isplitl [HtP]; · iexact HtP
  isplitl [HtN]; · iexact HtN
  isplitl [HcB]; · iexact HcB
  isplitl [HaB]; · iexact HaB
  isplitl [Hsent Hgot]
  · isplitl [Hsent] <;> iassumption
  isplitl [HcG HaG]
  · isplitl [HcG] <;> iassumption
  iexact HaS

end Cert.Moe

end
-- ==== Proof.Launch.lean ====
/-
The run of the whole program on all sixteen devices.

At any float values and from any memory with zero counters, every execution ends, with each device's result array
holding what `outAt` says, its arguments as they were and every counter at zero.
-/
module

public import proofs.«01_k».proof.Proof.Deal
public import proofs.«01_k».proof.Proof.Gen.KernelIdeal.Frame
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def atLaunch : MemSt nD τ sig (Elt F) := ⟨m, fun _ => 0, ρ⟩

/-! ## The launch's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def Φ₀ (c : Dev nD) : sProp 𝕄 := iprop((∃ K, Dealt m K c) ∗ rWhole (F := F) c ∗ lWhole (F := F) c)
def Φ₁ (c : Dev nD) : sProp 𝕄 := iprop(rWhole (F := F) c ∗ lWhole (F := F) c ∗ bigSep Finset.univ fun k : Cell => (semVal (kcell (c, k)) 0 : sProp 𝕄))

/-- The arrays, what the staging buffers hold after the body, and what a device owes before and after it. -/
def dats (_ : Fin 1) (c : Dev nD) : Dat τ (Elt F) Unit ℕ UU ℕ cfg0 c where
  A w := (atLaunch m ρ).mem ((cfg0.win w).arr.view.loc (c : Thread nD τ))
  after w _ := match w with
    | ⟨0, _⟩ => xAt m c
    | ⟨1, _⟩ => rwAt m c
    | ⟨2, _⟩ => ixAt m c
    | ⟨3, _⟩ => pairAt m c
    | ⟨4, _⟩ => swAt m c
    | ⟨5, _⟩ => outAt m c
  Φ t := match t with
    | ⟨0, _⟩ => Φ₀ m c
    | ⟨_ + 1, _⟩ => Φ₁ c
  q _ := fullShare
  owed t := match t with
    | ⟨0, _⟩ => owed₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_intro (c : Dev nD) (b : Ref sig .tc) (X : Buf (Elt F) ((c : Thread nD τ).loc b)) :
    (((c : Thread nD τ).loc b ↦{fullShare} X : sProp 𝕄)) ⊢ stg c b X := by
  iintro H; iexists X; isplitr
  · ipureintro; rfl
  · iexact H
theorem stg_elim (c : Dev nD) (b : Ref sig .tc) (X : Buf (Elt F) ((c : Thread nD τ).loc b)) :
    stg c b X ⊢ ((c : Thread nD τ).loc b ↦{fullShare} X : sProp 𝕄) := by
  iintro ⟨%f, %hf, H⟩; subst hf; iexact H

def bodyPre (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ (F := F) c ∗ (dats m ρ 0 c).owesAt () t₀.succ ∗ stg c cc0_stg0_0 (xAt m c) ∗ stg c cc0_stg1_0 (rwAt m c) ∗ stg c cc0_stg2_0 (ixAt m c)
    ∗ stg c cc0_stg3_0 (pairAt m c) ∗ stg c cc0_stg4_0 (swAt m c) ∗ stg c cc0_stg5_0 (outAt m c))

theorem before_x (c : Dev nD) (d) : (dats m ρ 0 c).before (0 : Fin 6) t₀ d = xAt m c := by unfold Dat.before; rw [if_pos (fetch0_0 t₀)]; rfl
theorem before_rw (c : Dev nD) (d) : (dats m ρ 0 c).before (1 : Fin 6) t₀ d = rwAt m c := by unfold Dat.before; rw [if_pos (fetch0_1 t₀)]; rfl
theorem before_ix (c : Dev nD) (d) : (dats m ρ 0 c).before (2 : Fin 6) t₀ d = ixAt m c := by unfold Dat.before; rw [if_pos (fetch0_2 t₀)]; rfl
theorem before_ew (c : Dev nD) (d) : (dats m ρ 0 c).before (3 : Fin 6) t₀ d = pairAt m c := by unfold Dat.before; rw [if_pos (fetch0_3 t₀)]; rfl
theorem before_sw (c : Dev nD) (d) : (dats m ρ 0 c).before (4 : Fin 6) t₀ d = swAt m c := by unfold Dat.before; rw [if_pos (fetch0_4 t₀)]; rfl

theorem owes_open (c : Dev nD) : (dats m ρ 0 c).owesAt () t₀.castSucc ⊢ (iprop(∃ W, owes (c : Thread nD τ) (owed₀ c) W) : sProp 𝕄) := by
  unfold Dat.owesAt Pipeline.owesWithin
  iintro ⟨%W, %hW, H⟩
  iexists W; iexact H
theorem owes_shut (c : Dev nD) : (iprop(∃ W, owes (c : Thread nD τ) 0 W) : sProp 𝕄) ⊢ (dats m ρ 0 c).owesAt () t₀.succ := by
  unfold Dat.owesAt Pipeline.owesWithin
  iintro ⟨%W, H⟩
  iexists W; isplitr
  · ipureintro; exact fun _ _ => Or.inl trivial
  · iexact H

/-- What the body is given, as what it needs. -/
theorem pre_open (c : Dev nD) : bodyPre m ρ c
    ⊢ iprop(∃ K f, Dealt m K c ∗ (∃ W, owes (c : Thread nD τ) (owed₀ c) W) ∗ rWhole (F := F) c ∗ lWhole (F := F) c ∗ inputs m c ∗ pair m c fullShare ∗ outPts (F := F) c f) := by
  unfold bodyPre Φ₀
  simp only [before_x, before_rw, before_ix, before_ew, before_sw]
  iintro ⟨⟨⟨%K, HD⟩, Hr, Hl⟩, Ho, ⟨%_, H0⟩, ⟨%_, H1⟩, ⟨%_, H2⟩, ⟨%_, H3⟩, ⟨%_, H4⟩, ⟨%d, %f, %hf, H5⟩⟩
  iexists K; iexists f
  isplitl [HD]; · iexact HD
  isplitl [Ho]; · iapply (owes_open m ρ c); iexact Ho
  isplitl [Hr]; · iexact Hr
  isplitl [Hl]; · iexact Hl
  unfold inputs pair outPts
  isplitl [H0 H1 H2 H4]
  · isplitl [H0]; · iapply (stg_elim c _ _); iexact H0
    isplitl [H1]; · iapply (stg_elim c _ _); iexact H1
    isplitl [H2]; · iapply (stg_elim c _ _); iexact H2
    iapply (stg_elim c _ _); iexact H4
  isplitl [H3]; · iapply (stg_elim c _ _); iexact H3
  iexact H5

theorem post_shut (c : Dev nD) : Done m c ⊢ bodyPost m ρ c := by
  unfold Done bodyPost Φ₁ inputs pair outPts
  iintro ⟨Ho, ⟨H0, H1, H2, H4⟩, H3, H5, Hr, Hl, Hz⟩
  isplitl [Hr Hl Hz]
  · isplitl [Hr]; · iexact Hr
    isplitl [Hl] <;> iassumption
  isplitl [Ho]; · iapply (owes_shut m ρ c); iexact Ho
  isplitl [H0]; · iapply (stg_intro c _ _); iexact H0
  isplitl [H1]; · iapply (stg_intro c _ _); iexact H1
  isplitl [H2]; · iapply (stg_intro c _ _); iexact H2
  isplitl [H3]; · iapply (stg_intro c _ _); iexact H3
  isplitl [H4]; · iapply (stg_intro c _ _); iexact H4
  iapply (stg_intro c _ _); iexact H5

theorem wpB_mono (c : Dev nD) {p : P F PUnit} {S T : sProp 𝕄} {Q : sProp 𝕄} (hST : S ⊢ T) (h : Q ⊢ wpB c p fun _ => S) : Q ⊢ wpB c p fun _ => T :=
  h.trans (wp_mono _ _ _ fun _ => hST)
theorem wpB_given (c : Dev nD) {p : P F PUnit} {I J : Type} {S : I → J → sProp 𝕄} {Q T : sProp 𝕄} (hQ : Q ⊢ iprop(∃ i j, S i j))
    (h : ∀ i j, S i j ⊢ wpB c p fun _ => T) : Q ⊢ wpB c p fun _ => T := by
  refine hQ.trans ?_
  iintro ⟨%i, %j, H⟩
  iapply (h i j); iexact H

theorem body_run (c : Dev nD) : bodyPre m ρ c ⊢ wpB c prog fun _ => bodyPost m ρ c :=
  wpB_given c (pre_open m ρ c) fun K f => wpB_mono c (post_shut m ρ c) (body_spec m K c f)

attribute [local irreducible] cc0_body in
set_option maxRecDepth 8000 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  have h := body_run m ρ c
  rw [← body_eq] at h
  exact h

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop((∃ K, Dealt m K c) ∗ emp) := by
  iintro ⟨-, Hlev, Hcr, -, HG⟩
  imodintro
  isplitl
  · iapply (dealt m c)
    isplitl [Hlev]; · iexact Hlev
    isplitl [Hcr] <;> iassumption
  · iempintro

theorem phi0_intro (c : Dev nD) :
    iprop((∃ K, Dealt m K c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ rWhole lWhole
  iintro ⟨Hs, -, Hr, Hl⟩
  isplitl [Hs]; · iexact Hs
  isplitl [Hr] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ rWhole lWhole
  rw [sems0_eq]
  iintro ⟨Hr, Hl, Hu, Ho⟩
  isplitl [Hu]; · iexact Hu
  isplitl [Ho]; · iexact Ho
  isplitl [Hr] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert w s; decide) _ (by
      rcases t with ⟨_ | _, ht⟩
      · exact Or.inl rfl
      · exact Or.inr rfl)

/-! ## The run -/

/-- What window `w`'s array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

attribute [local irreducible] cc0_body in
set_option maxRecDepth 65536 in
theorem run_main : θ_run defs (onTc (τ := τ) (main (F := F))) (atLaunch m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := fun c => iprop(∃ K, Dealt m K c)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays hold at the end what they held. -/
theorem finalA_in (c : Dev nD) (w : Fin cfg0.W) (hw : (cfg0.win w).isOut = false) :
    finalA m ρ c w = m ((cfg0.win w).arr.view.loc (c : Thread nD τ)) := (dats (F := F) m ρ 0 c).arrAt_in w hw _

end Cert.Moe

end
-- ==== Proof.Frames.lean ====
/-
That the kernel's program runs, leaves its arguments as they were and every counter at zero, at bit patterns and at
extended reals.
-/
module

public import proofs.«01_k».proof.Proof.Launch
public import proofs.«01_k».proof.Proof.Gen.Kernel
public import proofs.«01_k».proof.Proof.Gen.ReferenceIdeal.Run
public import proofs.«01_k».proof.Defs

@[expose] public section

noncomputable section

namespace Cert.Moe

open Cert.KernelIdeal Cert.KernelIdeal.Gen

open Idealize.ShloMosaic
open Idealize.ShloMosaic.TcCoe
open Idealize.SL.Sem

variable {F : FTy → Type} [FloatOps F]

/-- From the run's result: each argument array as it was. -/
theorem args_kept (m : (ℓ : Loc nD τ sig) → Buf (Elt F) ℓ) (ρ : Dev nD → PrngReg) (r : PUnit × MemSt nD τ sig (Elt F)) (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c 0).trans (finalA_in m ρ c 0 rfl), (h c 1).trans (finalA_in m ρ c 1 rfl), (h c 2).trans (finalA_in m ρ c 2 rfl),
    (h c 3).trans (finalA_in m ρ c 3 rfl), (h c 4).trans (finalA_in m ρ c 4 rfl)⟩

theorem frame_ideal : Cert.quiescent_KernelIdeal := fun m ρ _ =>
  (θ_run Cert.KernelIdeal.defs _ _).mono (fun r h => ⟨args_kept m ρ r h.1, h.2⟩) (run_main (F := Ideal) m ρ)

/-- The program at bit patterns has the same text as the one at extended reals. -/
theorem same_bodies : Cert.Kernel.defs (F := Bits) = Cert.KernelIdeal.defs := by chain_rfl
attribute [local irreducible] Cert.KernelIdeal.cc0_body Cert.Kernel.cc0_body Cert.KernelIdeal.defs Cert.Kernel.defs in
theorem same_run : θ_run (Cert.Kernel.defs (F := Bits)) (onTc (τ := Cert.Kernel.τ) (Cert.Kernel.main (F := Bits)))
    = θ_run (Cert.KernelIdeal.defs (F := Bits)) (onTc (τ := Cert.KernelIdeal.τ) (Cert.KernelIdeal.main (F := Bits))) :=
  congrArg (fun d => θ_run d (onTc (τ := Cert.KernelIdeal.τ) (Cert.KernelIdeal.main (F := Bits)))) same_bodies

theorem frame_kernel : Cert.quiescent_Kernel := fun m ρ _ => by
  rw [same_run]
  exact (θ_run Cert.KernelIdeal.defs _ _).mono (fun r h => ⟨args_kept m ρ r h.1, h.2⟩) (run_main (F := Bits) m ρ)

/-- The reference runs on one device and uses no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Moe

end
-- ==== Proof.Spec.lean ====
/-
What one token's row of the result is, as plain sums over the extended reals: the shared expert's product, and the
product with the expert the token is routed to, scaled by that expert's softmax probability. A route that names no
expert adds nothing.
-/
module

public import Idealize.ShloMosaic.Lib.Pointwise

@[expose] public section

noncomputable section

namespace Cert.Moe

open Idealize.ShloMosaic

/-- A token's scores: its row times the router's matrix. -/
def score (x : Fin 128 → EReal) (r : Fin 128 → Fin 32 → EReal) (j : Fin 32) : EReal := ∑ k, x k * r k j

/-- The greatest of the scores; the maximum starts from the word of −∞. -/
def top (s : Fin 32 → EReal) : EReal := Finset.univ.fold max (Ideal.ofBits .f32 0xFF800000#32) s

/-- The softmax of the scores. -/
def prob (s : Fin 32 → EReal) (j : Fin 32) : EReal :=
  Ideal.div (Ideal.exp (s j - top s)) (∑ k, Ideal.exp (s k - top s))

/-- A token's row times one expert's matrix, at a column. -/
def product (x : Fin 128 → EReal) (w : Fin 128 → Fin 256 → EReal) (h : Fin 256) : EReal := ∑ k, x k * w k h

/-- The probability of the expert the token is routed to; zero where the route names none. -/
def gate (x : Fin 128 → EReal) (r : Fin 128 → Fin 32 → EReal) (e : BitVec 32) : EReal :=
  if h : e.toNat < 32 then prob (score x r) ⟨e.toNat, h⟩ else 0

/-- The token's row of the result, at a column. -/
def result (x : Fin 128 → EReal) (r : Fin 128 → Fin 32 → EReal) (e : BitVec 32) (w : Fin 32 → Fin 128 → Fin 256 → EReal)
    (u : Fin 128 → Fin 256 → EReal) (h : Fin 256) : EReal :=
  product x u h + if he : e.toNat < 32 then prob (score x r) ⟨e.toNat, he⟩ * product x (w ⟨e.toNat, he⟩) h else 0

end Cert.Moe

end
-- ==== Proof.KerValue.lean ====
/-
The kernel's sum, element by element.

A pair of experts adds, at a token's row, the product with the one of its two matrices that the token is routed to, scaled
by the token's probability, and nothing if the token is routed elsewhere. The sixteen devices' pairs, taken in the order
in which they arrive, are all thirty-two experts, each once; so the sum is the shared expert's product and the one
scaled product of the token's expert.
-/
module

public import proofs.«01_k».proof.Proof.Spec
public import proofs.«01_k».proof.Proof.Ring
public import Idealize.ShloMosaic.Lib.Pointwise
public import Idealize.ShloMosaic.Lib.WordCmp

@[expose] public section

noncomputable section

namespace Cert.Moe

open Cert.KernelIdeal Cert.KernelIdeal.Gen

open Idealize.ShloMosaic

set_option maxRecDepth 16384

/-! ## One route among the experts -/

/-- Of thirty-two numbers the one a word names, or zero. -/
theorem sum_route (f : Fin 32 → EReal) (e : BitVec 32) :
    (∑ j : Fin 32, Scalar.select (IntOp.cmpi .eq e (BitVec.ofNat 32 j.val)) (f j) 0) = if h : e.toNat < 32 then f ⟨e.toNat, h⟩ else 0 := by
  have hs : ∀ j : Fin 32, Scalar.select (IntOp.cmpi .eq e (BitVec.ofNat 32 j.val)) (f j) 0 = if e = BitVec.ofNat 32 j.val then f j else 0 := fun j => by
    rw [WordCmp.cmpi_eq_eq, WordCmp.select_decide]
  rw [Finset.sum_congr rfl fun j _ => hs j]
  have hj : ∀ j : Fin 32, (BitVec.ofNat 32 j.val).toNat = j.val := fun j => by
    rw [BitVec.toNat_ofNat]; exact Nat.mod_eq_of_lt (by omega)
  by_cases h : e.toNat < 32
  · rw [dif_pos h, Finset.sum_eq_single ⟨e.toNat, h⟩ ?_ (fun n => absurd (Finset.mem_univ _) n)]
    · rw [if_pos (by simp)]
    · intro j _ hne
      exact if_neg fun he => hne (Fin.ext ((hj j).symm.trans (congrArg BitVec.toNat he.symm)))
  · rw [dif_neg h]
    refine Finset.sum_eq_zero fun j _ => if_neg fun he => h ?_
    rw [he, hj]; exact j.isLt

/-- The experts by device and place in the pair. -/
theorem sum_pairs (f : Fin 32 → EReal) :
    (∑ d : Fin 16, (f ⟨2 * d.val, by omega⟩ + f ⟨2 * d.val + 1, by omega⟩)) = ∑ g, f g := by
  simp only [Fin.sum_univ_succ, Fin.sum_univ_zero, add_zero, add_assoc]
  rfl

/-! ## The pieces of the body's sum -/

theorem weight_apply (x : Vec Ideal S256x128 .f32) (ix : Vec Ideal S256x1 .i32) (r : Vec Ideal S128x32 .f32) (t : Fin 256) :
    weight x ix r (ix1 t) = gate (fun k => x (ix2 t k)) (fun k j => r (ix2 k j)) (ix (ix2 t 0)) := by
  pointwise [weight, k0_pay5, k0_pay4, k0_pay3, k0_pay2, k0_pay1]
  exact sum_route (fun j => prob (score (fun k => x (ix2 t k)) (fun k j => r (ix2 k j))) j) _

/-- What one expert adds at a token's row: `p` is the token's probability, `e` its route. -/
def share (x : Fin 128 → EReal) (e : BitVec 32) (p : EReal) (w : Fin 32 → Fin 128 → Fin 256 → EReal) (h : Fin 256) (g : Fin 32) : EReal :=
  Scalar.select (IntOp.cmpi .eq e (BitVec.ofNat 32 g.val)) (p * product x (w g) h) 0

/-- What device `d`'s pair adds. -/
def pairShare (x : Fin 128 → EReal) (e : BitVec 32) (p : EReal) (w : Fin 32 → Fin 128 → Fin 256 → EReal) (h : Fin 256) (d : Fin 16) : EReal :=
  share x e p w h ⟨2 * d.val, by omega⟩ + share x e p w h ⟨2 * d.val + 1, by omega⟩

/-- The experts' numbers, as the body computes them of a device's. -/
theorem number0 (d : Fin 16) : Scalar.addi (Scalar.muli (BitVec.ofNat 32 d.val) 2#32) 0#32 = BitVec.ofNat 32 (2 * d.val) := by revert d; decide
theorem number1 (d : Fin 16) : Scalar.addi (Scalar.muli (BitVec.ofNat 32 d.val) 2#32) 1#32 = BitVec.ofNat 32 (2 * d.val + 1) := by revert d; decide

theorem addPair_apply (x : Vec Ideal S256x128 .f32) (ix : Vec Ideal S256x1 .i32) (p : FVec Ideal S256 .f32) (acc : FVec Ideal S256x256 .f32)
    (d : Fin 16) (v : FVec Ideal S2x128x256 .f32) (w : Fin 32 → Fin 128 → Fin 256 → EReal)
    (h0 : ∀ k h, v (ix3 0 k h) = w ⟨2 * d.val, by omega⟩ k h) (h1 : ∀ k h, v (ix3 1 k h) = w ⟨2 * d.val + 1, by omega⟩ k h) (t h : Fin 256) :
    addPair (k0_pay1 x) (k0_pay2 ix) p acc (BitVec.ofNat 32 d.val) v (ix2 t h)
      = acc (ix2 t h) + pairShare (fun k => x (ix2 t k)) (ix (ix2 t 0)) (p (ix1 t)) w h d := by
  pointwise [addPair, k0_pay1, k0_pay2]
  rw [number0, number1]
  unfold pairShare share product
  rw [add_assoc, Finset.sum_congr rfl fun k _ => congrArg (x (ix2 t k) * ·) (h0 k h), Finset.sum_congr rfl fun k _ => congrArg (x (ix2 t k) * ·) (h1 k h)]

/-- The shared expert's product. -/
def shared (x : Vec Ideal S256x128 .f32) (sw : Vec Ideal S128x256 .f32) : FVec Ideal S256x256 .f32 :=
  let u : FVec Ideal S128x256 .f32 := shapeCast S128x256 sw shapeCasts_S128x256_S128x256
  matmul dot_S256x128_S128x256_S256x256_1_0_0_1_n_n none (k0_pay1 x) u (constant S256x256 .f32 0x00000000#32)

theorem shared_apply (x : Vec Ideal S256x128 .f32) (sw : Vec Ideal S128x256 .f32) (t h : Fin 256) :
    shared x sw (ix2 t h) = product (fun k => x (ix2 t k)) (fun k h => sw (ix2 k h)) h := by
  pointwise [shared, k0_pay1]
  rfl

/-- The device's own pair as it was loaded. -/
def ownPair (ew : Vec Ideal S2x128x256 .f32) : FVec Ideal S2x128x256 .f32 := shapeCast S2x128x256 ew shapeCasts_S2x128x256_S2x128x256

theorem ownPair_apply (ew : Vec Ideal S2x128x256 .f32) (el : Fin 2) (k : Fin 128) (h : Fin 256) : ownPair ew (ix3 el k h) = ew (ix3 el k h) := by
  pointwise [ownPair]

theorem pairOf_apply (v : Vec Ideal S1x2x128x256 .f32) (el : Fin 2) (k : Fin 128) (h : Fin 256) : pairOf v (ix3 el k h) = v (ix4 0 el k h) := by
  pointwise [pairOf]

theorem acc0_eq (d : Dev nD) (x : Vec Ideal S256x128 .f32) (ix : Vec Ideal S256x1 .i32) (r : Vec Ideal S128x32 .f32) (sw : Vec Ideal S128x256 .f32)
    (ew : Vec Ideal S2x128x256 .f32) :
    acc0 d x ix r sw ew = addPair (k0_pay1 x) (k0_pay2 ix) (weight x ix r) (shared x sw) (myW d) (ownPair ew) := rfl

/-! ## The order of arrival -/

theorem myW_eq (d : Dev nD) : myW d = BitVec.ofNat 32 d.val := by revert d; decide +kernel
theorem rOrigin_eq (d : Dev nD) (h : Fin 8) : rOrigin d h = BitVec.ofNat 32 (prv^[h.val + 1] d).val := by revert d h; decide +kernel
theorem lOrigin_eq (d : Dev nD) (h : Fin 7) : lOrigin d h = BitVec.ofNat 32 (nxt^[h.val + 1] d).val := by revert d h; decide +kernel

/-- The devices in the order in which device `c` adds their pairs. -/
def order (c : Dev nD) : Fin 16 → Dev nD :=
  ![c, prv^[1] c, nxt^[1] c, prv^[2] c, nxt^[2] c, prv^[3] c, nxt^[3] c, prv^[4] c, nxt^[4] c, prv^[5] c, nxt^[5] c,
    prv^[6] c, nxt^[6] c, prv^[7] c, nxt^[7] c, prv^[8] c]

theorem order_injective (c : Dev nD) : Function.Injective (order c) := by revert c; unfold Function.Injective; decide +kernel

/-- Every device's pair is added once. -/
theorem sum_order (f : Fin 16 → EReal) (c : Dev nD) :
    (∑ k, f (order c k)) = ∑ d, f d :=
  Equiv.sum_comp (Equiv.ofBijective (order c) (Finite.injective_iff_bijective.mp (order_injective c))) f

end Cert.Moe

end
-- ==== Proof.OutValue.lean ====
/-
The stored sum is the specified row, and the blocks are the whole arrays' blocks.
-/
module

public import proofs.«01_k».proof.Proof.KerValue
public import proofs.«01_k».proof.Proof.Body
public import Idealize.ShloMosaic.Lib.Pointwise.IndexBridge

@[expose] public section

noncomputable section

namespace Cert.Moe

open Cert.KernelIdeal Cert.KernelIdeal.Gen

open Idealize.ShloMosaic
open Idealize.ShloMosaic.TcCoe

set_option maxRecDepth 16384

variable (m : (ℓ : Loc nD τ sig) → Buf (Elt Ideal) ℓ)

theorem rRead_apply (c : Dev nD) (s : Fin 9) (el : Fin 2) (k : Fin 128) (h : Fin 256) :
    rRead m c s (ix4 0 el k h) = pairAt m (prv^[s.val] c) (ix3 el k h) := by
  have e : ((rRect s).toLoadRect.idx (ix4 0 el k h) : S9x2x128x256.Idx) = ix4 s el k h := by
    funext a; apply Fin.ext
    match a with
    | ⟨0, _⟩ => rfl
    | ⟨1, _⟩ => exact (Nat.zero_add _).trans (Nat.one_mul _)
    | ⟨2, _⟩ => exact (Nat.zero_add _).trans (Nat.one_mul _)
    | ⟨3, _⟩ => exact (Nat.zero_add _).trans (Nat.one_mul _)
  show rBuf m c ((rRect s).toLoadRect.idx (ix4 0 el k h)) = _
  rw [e, ix3_eq_valueIdx]
  rfl

theorem lRead_apply (c : Dev nD) (s : Fin 8) (el : Fin 2) (k : Fin 128) (h : Fin 256) :
    lRead m c s (ix4 0 el k h) = pairAt m (nxt^[s.val] c) (ix3 el k h) := by
  have e : ((lRect s).toLoadRect.idx (ix4 0 el k h) : S8x2x128x256.Idx) = ix4 s el k h := by
    funext a; apply Fin.ext
    match a with
    | ⟨0, _⟩ => rfl
    | ⟨1, _⟩ => exact (Nat.zero_add _).trans (Nat.one_mul _)
    | ⟨2, _⟩ => exact (Nat.zero_add _).trans (Nat.one_mul _)
    | ⟨3, _⟩ => exact (Nat.zero_add _).trans (Nat.one_mul _)
  show lBuf m c ((lRect s).toLoadRect.idx (ix4 0 el k h)) = _
  rw [e, ix3_eq_valueIdx]
  rfl

/-- The experts' matrices, gathered from the devices' pairs. -/
def experts (g : Fin 32) (k : Fin 128) (h : Fin 256) : EReal := pairAt m (⟨g.val / 2, by omega⟩ : Fin 16) (ix3 ⟨g.val % 2, by omega⟩ k h)

theorem experts_even (d : Fin 16) (k : Fin 128) (h : Fin 256) : experts m ⟨2 * d.val, by omega⟩ k h = pairAt m (d : Dev nD) (ix3 0 k h) := by
  have e1 : (⟨(2 * d.val) / 2, by omega⟩ : Fin 16) = d := Fin.ext (by show 2 * d.val / 2 = d.val; omega)
  have e2 : (⟨(2 * d.val) % 2, by omega⟩ : Fin 2) = 0 := Fin.ext (by show 2 * d.val % 2 = 0; omega)
  show pairAt m (⟨(2 * d.val) / 2, by omega⟩ : Fin 16) (ix3 (⟨(2 * d.val) % 2, by omega⟩ : Fin 2) k h) = _
  rw [e1, e2]
theorem experts_odd (d : Fin 16) (k : Fin 128) (h : Fin 256) : experts m ⟨2 * d.val + 1, by omega⟩ k h = pairAt m (d : Dev nD) (ix3 1 k h) := by
  have e1 : (⟨(2 * d.val + 1) / 2, by omega⟩ : Fin 16) = d := Fin.ext (by show (2 * d.val + 1) / 2 = d.val; omega)
  have e2 : (⟨(2 * d.val + 1) % 2, by omega⟩ : Fin 2) = 1 := Fin.ext (by show (2 * d.val + 1) % 2 = 1; omega)
  show pairAt m (⟨(2 * d.val + 1) / 2, by omega⟩ : Fin 16) (ix3 (⟨(2 * d.val + 1) % 2, by omega⟩ : Fin 2) k h) = _
  rw [e1, e2]

variable (c : Dev nD) (t h : Fin 256)

/-- What device `d`'s pair adds to a row of device `c`. -/
def adds (d : Fin 16) : EReal :=
  pairShare (fun k => xAt m c (ix2 t k)) (ixAt m c (ix2 t 0)) (weight (xAt m c) (ixAt m c) (rwAt m c) (ix1 t)) (experts m) h d

theorem rAdd_apply (i : Fin 8) (s : Fin 9) (hs : s.val = i.val + 1) (acc : FVec Ideal S256x256 .f32) :
    rAdd c i (xAt m c) (ixAt m c) (weight (xAt m c) (ixAt m c) (rwAt m c)) acc (rRead m c s) (ix2 t h)
      = acc (ix2 t h) + adds m c t h (prv^[i.val + 1] c) := by
  unfold rAdd
  rw [rOrigin_eq]
  refine addPair_apply _ _ _ acc (prv^[i.val + 1] c) _ (experts m) (fun k h => ?_) (fun k h => ?_) t h
  · rw [pairOf_apply, rRead_apply, experts_even, hs]
  · rw [pairOf_apply, rRead_apply, experts_odd, hs]

theorem lAdd_apply (i : Fin 7) (s : Fin 8) (hs : s.val = i.val + 1) (acc : FVec Ideal S256x256 .f32) :
    lAdd c i (xAt m c) (ixAt m c) (weight (xAt m c) (ixAt m c) (rwAt m c)) acc (lRead m c s) (ix2 t h)
      = acc (ix2 t h) + adds m c t h (nxt^[i.val + 1] c) := by
  unfold lAdd
  rw [lOrigin_eq]
  refine addPair_apply _ _ _ acc (nxt^[i.val + 1] c) _ (experts m) (fun k h => ?_) (fun k h => ?_) t h
  · rw [pairOf_apply, lRead_apply, experts_even, hs]
  · rw [pairOf_apply, lRead_apply, experts_odd, hs]

theorem startAt_apply : startAt m c (ix2 t h)
    = product (fun k => xAt m c (ix2 t k)) (fun k h => swAt m c (ix2 k h)) h + adds m c t h c := by
  unfold startAt
  rw [acc0_eq, myW_eq]
  refine (addPair_apply _ _ _ _ c _ (experts m) (fun k h => ?_) (fun k h => ?_) t h).trans ?_
  · rw [ownPair_apply]; exact (experts_even m c k h).symm
  · rw [ownPair_apply]; exact (experts_odd m c k h).symm
  · rw [shared_apply]; rfl

theorem hopAt_apply (i : Fin 7) (acc : FVec Ideal S256x256 .f32) : hopAt m c i acc (ix2 t h)
    = acc (ix2 t h) + adds m c t h (prv^[i.val + 1] c) + adds m c t h (nxt^[i.val + 1] c) := by
  unfold hopAt stepAt
  rw [lAdd_apply m c t h i i.succ (Fin.val_succ i), rAdd_apply m c t h i.castSucc _ rfl]
  rfl

/-- What device `c` stores is the specified row of each of its tokens. -/
theorem outAt_apply : outAt m c (ix2 t h)
    = result (fun k => xAt m c (ix2 t k)) (fun k j => rwAt m c (ix2 k j)) (ixAt m c (ix2 t 0)) (experts m) (fun k h => swAt m c (ix2 k h)) h := by
  unfold outAt
  rw [rAdd_apply m c t h 7 8 rfl]
  simp only [hopAt_apply, startAt_apply]
  have hsum : (∑ k, adds m c t h (order c k)) = ∑ d, adds m c t h d := sum_order (adds m c t h) c
  have hall : (∑ d, adds m c t h d) = if he : (ixAt m c (ix2 t 0)).toNat < 32 then
      weight (xAt m c) (ixAt m c) (rwAt m c) (ix1 t) * product (fun k => xAt m c (ix2 t k)) (experts m ⟨_, he⟩) h else 0 :=
    (sum_pairs (share (fun k => xAt m c (ix2 t k)) (ixAt m c (ix2 t 0)) (weight (xAt m c) (ixAt m c) (rwAt m c) (ix1 t)) (experts m) h)).trans
      (sum_route (fun g => weight (xAt m c) (ixAt m c) (rwAt m c) (ix1 t) * product (fun k => xAt m c (ix2 t k)) (experts m g) h) _)
  unfold result
  have hg : (if he : (ixAt m c (ix2 t 0)).toNat < 32 then
      weight (xAt m c) (ixAt m c) (rwAt m c) (ix1 t) * product (fun k => xAt m c (ix2 t k)) (experts m ⟨_, he⟩) h else 0)
      = if he : (ixAt m c (ix2 t 0)).toNat < 32 then
        prob (score (fun k => xAt m c (ix2 t k)) (fun k j => rwAt m c (ix2 k j))) ⟨_, he⟩ * product (fun k => xAt m c (ix2 t k)) (experts m ⟨_, he⟩) h else 0 := by
    by_cases he : (ixAt m c (ix2 t 0)).toNat < 32
    · rw [dif_pos he, dif_pos he, weight_apply]
      unfold gate
      rw [dif_pos he]
    · rw [dif_neg he, dif_neg he]
  rw [← hg, ← hall, ← hsum]
  simp only [Fin.sum_univ_succ, Fin.sum_univ_zero, add_zero, add_assoc]
  rfl

end Cert.Moe

end
-- ==== Proof.RefValue.lean ====
/-
The reference's result, element by element.

The reference looks up each token's expert by two gathers, of the softmax table and of the stack of matrices, at the
token's route clipped to the experts there are. Where the route is in range, clipping and the wrapping of negative indices leave it
as it is, and both gathers read at it; where it is not, the selected probability is zero. `term_apply` says that the
reference's row is `result` of the token's row.
-/
module

public import proofs.«01_k».proof.Proof.Spec
public import proofs.«01_k».proof.Proof.Gen.ReferenceIdeal.Run
public import Idealize.ShloMosaic.Lib.Pointwise
public import Idealize.ShloMosaic.Lib.Tactic.WordOmega

@[expose] public section

noncomputable section

namespace Cert.Moe.Ref

open Cert.ReferenceIdeal Cert.ReferenceIdeal.Gen

open Idealize.ShloMosaic
open Idealize.ShloMosaic.TcCoe

set_option maxRecDepth 16384

/-! ## The pieces of the reference's term -/

/-- The route of each token. -/
def route (e : IVec S4096x1 32) : IVec S4096 32 := shapeCast S4096 e shapeCasts_S4096x1_S4096

/-- One number at every token. -/
def all (n : BitVec 32) : IVec S4096 32 := broadcastInDim S4096 ![] bcast_S_S4096 (constantI S_ 32 n)

/-- Whether the route names an expert. -/
def valid (e : IVec S4096x1 32) : IVec S4096 1 := andi (cmpi .sge (route e) (all 0#32)) (cmpi .slt (route e) (all 32#32))

/-- The route clipped to the experts there are. -/
def clipped (e : IVec S4096x1 32) : IVec S4096 32 := minsi (all 31#32) (maxsi (all 0#32) (route e))

/-- The rows of the stack's gather. -/
def stackIx (e : IVec S4096x1 32) : IVec S4096x1 32 :=
  broadcastInDim S4096x1 ![0] bcast_S4096_S4096x1_0
    (select (cmpi .slt (clipped e) (all 0#32)) (addi (clipped e) (all 32#32)) (clipped e))

/-- The columns of the table's gather. -/
def tableIx (e : IVec S4096x1 32) : IVec S4096x1x1 32 :=
  shapeCast S4096x1x1
    (select (cmpi .slt (broadcastInDim S4096x1 ![0] bcast_S4096_S4096x1_0 (clipped e)) (broadcastInDim S4096x1 ![] bcast_S_S4096x1 (constantI S_ 32 0#32)))
      (addi (broadcastInDim S4096x1 ![0] bcast_S4096_S4096x1_0 (clipped e)) (broadcastInDim S4096x1 ![] bcast_S_S4096x1 (constantI S_ 32 32#32)))
      (broadcastInDim S4096x1 ![0] bcast_S4096_S4096x1_0 (clipped e)))
    shapeCasts_S4096x1_S4096x1x1

/-- Whether a column of the table's gather is in range. -/
def inTable (e : IVec S4096x1 32) : IVec S4096x1 1 :=
  Host.reduce IntOp.andi
    (andi (cmpi .sge (tableIx e) (broadcastInDim S4096x1x1 ![] bcast_S_S4096x1x1 (constantI S_ 32 0#32)))
      (cmpi .sle (tableIx e) (broadcastInDim S4096x1x1 ![0, 1, 2] bcast_S1x1x1_S4096x1x1_0_1_2 (broadcastInDim S1x1x1 ![2] bcast_S1_S1x1x1_2 (constantI S1 32 31#32)))))
    (constantI S_ 1 1#1) reducesTo_S4096x1x1_S4096x1_d2 h_S_

/-- The scores, their greatest, and the softmax. -/
def scores (x : FVec Ideal S4096x128 .f32) (r : FVec Ideal S128x32 .f32) : FVec Ideal S4096x32 .f32 :=
  Host.dotGeneral dot_S4096x128_S128x32_S4096x32_1_0_0_1_n_n none x r
def greatest (x : FVec Ideal S4096x128 .f32) (r : FVec Ideal S128x32 .f32) : FVec Ideal S4096 .f32 :=
  Host.reduce FloatOps.maximumf (scores x r) (constant S_ .f32 0xFF800000#32) reducesTo_S4096x32_S4096_d1 h_S_
def powers (x : FVec Ideal S4096x128 .f32) (r : FVec Ideal S128x32 .f32) : FVec Ideal S4096x32 .f32 :=
  Host.exp (subf (scores x r) (broadcastInDim S4096x32 ![0, 1] bcast_S4096x1_S4096x32_0_1 (broadcastInDim S4096x1 ![0] bcast_S4096_S4096x1_0 (greatest x r))))
def softmax (x : FVec Ideal S4096x128 .f32) (r : FVec Ideal S128x32 .f32) : FVec Ideal S4096x32 .f32 :=
  Host.divf (powers x r) (broadcastInDim S4096x32 ![0, 1] bcast_S4096x1_S4096x32_0_1 (broadcastInDim S4096x1 ![0] bcast_S4096_S4096x1_0
    (Host.reduceAdd (powers x r) (constant S_ .f32 0x00000000#32) reducesTo_S4096x32_S4096_d1 h_S_)))

/-- Each token's softmax entry at its clipped route. -/
def picked (x : FVec Ideal S4096x128 .f32) (r : FVec Ideal S128x32 .f32) (e : IVec S4096x1 32) : FVec Ideal S4096x1 .f32 :=
  select (inTable e) (Host.gather gather_S4096x32_S4096x1x1_S4096x1_n_1_0_0_1_2_11 (softmax x r) (tableIx e))
    (broadcastInDim S4096x1 ![] bcast_S_S4096x1 (constant S_ .f32 0x7FC00000#32))

/-- Each token's probability, zero where its route names no expert. -/
def chosen (x : FVec Ideal S4096x128 .f32) (r : FVec Ideal S128x32 .f32) (e : IVec S4096x1 32) : FVec Ideal S4096 .f32 :=
  select (valid e) (shapeCast S4096 (picked x r e) shapeCasts_S4096x1_S4096) (broadcastInDim S4096 ![] bcast_S_S4096 (constant S_ .f32 0x00000000#32))

/-- Each token's matrix. -/
def matrices (w : FVec Ideal S32x128x256 .f32) (e : IVec S4096x1 32) : FVec Ideal S4096x128x256 .f32 :=
  Host.gather gather_S32x128x256_S4096x1_S4096x128x256_12_0_n_n_0_1_1128256 w (stackIx e)

/-- The whole result. -/
def term (x : FVec Ideal S4096x128 .f32) (r : FVec Ideal S128x32 .f32) (e : IVec S4096x1 32) (w : FVec Ideal S32x128x256 .f32)
    (u : FVec Ideal S128x256 .f32) : FVec Ideal S4096x256 .f32 :=
  addf (Host.dotGeneral dot_S4096x128_S128x256_S4096x256_1_0_0_1_n_n none x u)
    (mulf (broadcastInDim S4096x256 ![0, 1] bcast_S4096x1_S4096x256_0_1 (broadcastInDim S4096x1 ![0] bcast_S4096_S4096x1_0 (chosen x r e)))
      (Host.dotGeneral dot_S4096x128_S4096x128x256_S4096x256_1_1_n_2_0_0 none x (matrices w e)))

theorem res_eq (m : (ℓ : Loc nD τ sig) → Buf (Elt Ideal) ℓ) (c : Dev nD) : Value.res_out0 m c
    = term (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  chain_rfl

/-! ## Words below 32 -/

/-- A word below 32 is the word of a number below 32. -/
theorem word_of_lt {w : BitVec 32} (h : w.toNat < 32) : w = BitVec.ofNat 32 (⟨w.toNat, h⟩ : Fin 32).val := by
  simp

theorem read_word (k : Fin 32) : min (BitVec.ofNat 32 k.val).toInt.toNat 31 = k.val := by
  revert k; decide

theorem clip_word (k : Fin 32) : IntOp.minsi (31#32) (IntOp.maxsi (0#32) (BitVec.ofNat 32 k.val)) = BitVec.ofNat 32 k.val := by
  revert k; decide

theorem wrap_word (k : Fin 32) : Scalar.select (IntOp.cmpi .slt (BitVec.ofNat 32 k.val) 0#32)
    (IntOp.addi (BitVec.ofNat 32 k.val) 32#32) (BitVec.ofNat 32 k.val) = BitVec.ofNat 32 k.val := by
  revert k; decide

theorem in_word (k : Fin 32) : IntOp.andi (IntOp.cmpi .sge (BitVec.ofNat 32 k.val) 0#32)
    (IntOp.cmpi .sle (BitVec.ofNat 32 k.val) 31#32) = 1#1 := by
  revert k; decide

theorem valid_word (w : BitVec 32) : IntOp.andi (IntOp.cmpi .sge w 0#32) (IntOp.cmpi .slt w 32#32) = if w.toNat < 32 then 1#1 else 0#1 := by
  word_omega

/-! ## The two gathers -/

/-- A row's entry at the column its index names. -/
theorem gather_table {α : Type} (v : S4096x32.Idx → α) (k : IVec S4096x1x1 32) (i : Fin 4096) (n : Fin 32) (h : k (ix3 i 0 0) = BitVec.ofNat 32 n.val) :
    Host.gather gather_S4096x32_S4096x1x1_S4096x1_n_1_0_0_1_2_11 v k (ix2 i 0) = v (ix2 i n) := by
  have e : gather_S4096x32_S4096x1x1_S4096x1_n_1_0_0_1_2_11.siIdx (ix2 i 0) ⟨0, by decide⟩ = ix3 i 0 0 := by
    funext b; apply Fin.ext
    match b with
    | ⟨0, _⟩ => rfl
    | ⟨1, _⟩ => rfl
    | ⟨2, _⟩ => rfl
  refine congrArg v (funext fun a => Fin.ext ?_)
  match a with
  | ⟨0, _⟩ => exact Nat.zero_add _
  | ⟨1, _⟩ =>
    show min (k (gather_S4096x32_S4096x1x1_S4096x1_n_1_0_0_1_2_11.siIdx (ix2 i 0) ⟨0, by decide⟩)).toInt.toNat 31 + 0 + 0 = n.val
    rw [e, h]
    exact read_word n

/-- The matrix its index names. -/
theorem gather_stack {α : Type} (v : S32x128x256.Idx → α) (k : IVec S4096x1 32) (i : Fin 4096) (n : Fin 32) (h : k (ix2 i 0) = BitVec.ofNat 32 n.val)
    (p : Fin 128) (q : Fin 256) :
    Host.gather gather_S32x128x256_S4096x1_S4096x128x256_12_0_n_n_0_1_1128256 v k (ix3 i p q) = v (ix3 n p q) := by
  have e : gather_S32x128x256_S4096x1_S4096x128x256_12_0_n_n_0_1_1128256.siIdx (ix3 i p q) ⟨0, by decide⟩ = ix2 i 0 := by
    funext b; apply Fin.ext
    match b with
    | ⟨0, _⟩ => rfl
    | ⟨1, _⟩ => rfl
  refine congrArg v (funext fun a => Fin.ext ?_)
  match a with
  | ⟨0, _⟩ =>
    show min (k (gather_S32x128x256_S4096x1_S4096x128x256_12_0_n_n_0_1_1128256.siIdx (ix3 i p q) ⟨0, by decide⟩)).toInt.toNat 31 + 0 + 0 = n.val
    rw [e, h]
    exact read_word n
  | ⟨1, _⟩ => exact Nat.zero_add _
  | ⟨2, _⟩ => exact Nat.zero_add _

/-! ## The route -/

theorem valid_apply (e : IVec S4096x1 32) (i : Fin 4096) :
    valid e (ix1 i) = if (e (ix2 i 0)).toNat < 32 then 1#1 else 0#1 := by
  pointwise [valid, route, all]
  exact valid_word _

theorem stackIx_apply (e : IVec S4096x1 32) (i : Fin 4096) (n : Fin 32) (h : e (ix2 i 0) = BitVec.ofNat 32 n.val) :
    stackIx e (ix2 i 0) = BitVec.ofNat 32 n.val := by
  pointwise [stackIx, clipped, route, all]
  rw [h, clip_word, wrap_word]

theorem tableIx_apply (e : IVec S4096x1 32) (i : Fin 4096) (n : Fin 32) (h : e (ix2 i 0) = BitVec.ofNat 32 n.val) :
    tableIx e (ix3 i 0 0) = BitVec.ofNat 32 n.val := by
  pointwise [tableIx, clipped, route, all]
  rw [h, clip_word, wrap_word]

theorem inTable_apply (e : IVec S4096x1 32) (i : Fin 4096) (n : Fin 32) (h : e (ix2 i 0) = BitVec.ofNat 32 n.val) : inTable e (ix2 i 0) = 1#1 := by
  pointwise [inTable]
  rw [Finset.univ_unique, Finset.fold_singleton]
  show IntOp.andi (IntOp.andi (IntOp.cmpi .sge (tableIx e (ix3 i 0 0)) 0#32) (IntOp.cmpi .sle (tableIx e (ix3 i 0 0)) 31#32)) 1#1 = 1#1
  rw [tableIx_apply e i n h, in_word]
  decide

/-! ## The values -/

theorem softmax_apply (x : FVec Ideal S4096x128 .f32) (r : FVec Ideal S128x32 .f32) (i : Fin 4096) (j : Fin 32) :
    softmax x r (ix2 i j) = prob (score (fun k => x (ix2 i k)) (fun k j => r (ix2 k j))) j := by
  pointwise [softmax, powers, greatest, scores]
  rfl

theorem picked_apply (x : FVec Ideal S4096x128 .f32) (r : FVec Ideal S128x32 .f32) (e : IVec S4096x1 32) (i : Fin 4096) (n : Fin 32)
    (h : e (ix2 i 0) = BitVec.ofNat 32 n.val) :
    picked x r e (ix2 i 0) = prob (score (fun k => x (ix2 i k)) (fun k j => r (ix2 k j))) n := by
  show Scalar.select (inTable e (ix2 i 0)) (Host.gather gather_S4096x32_S4096x1x1_S4096x1_n_1_0_0_1_2_11 (softmax x r) (tableIx e) (ix2 i 0)) _ = _
  rw [inTable_apply e i n h, gather_table _ _ i n (tableIx_apply e i n h), softmax_apply]
  rfl

theorem term_apply (x : FVec Ideal S4096x128 .f32) (r : FVec Ideal S128x32 .f32) (e : IVec S4096x1 32) (w : FVec Ideal S32x128x256 .f32)
    (u : FVec Ideal S128x256 .f32) (i : Fin 4096) (h : Fin 256) : term x r e w u (ix2 i h)
      = result (fun k => x (ix2 i k)) (fun k j => r (ix2 k j)) (e (ix2 i 0)) (fun g k h => w (ix3 g k h)) (fun k h => u (ix2 k h)) h := by
  pointwise [term, chosen]
  rw [valid_apply]
  unfold result
  by_cases hv : (e (ix2 i 0)).toNat < 32
  · have hn := word_of_lt hv
    rw [if_pos hv, dif_pos hv, picked_apply x r e i _ hn]
    refine congrArg₂ (· + ·) rfl (congrArg₂ (· * ·) rfl (Finset.sum_congr rfl fun k _ => congrArg₂ (· * ·) rfl ?_))
    exact gather_stack w (stackIx e) i _ (stackIx_apply e i _ hn) k h
  · rw [if_neg hv, dif_neg hv]
    rfl

end Cert.Moe.Ref

end
-- ==== Proof.Algebraic.lean ====
/-
At extended reals the sixteen devices compute the reference's rows.

Each argument window's one block is its whole array, so what the kernel's bodies read on device `c` is what device `c`
was given: block `c` of the tokens, of the routes and of the experts, and a copy of the router and of the shared
expert. With `outAt_apply` on one side and `Ref.term_apply` on the other, both rows are `result` of the same numbers.
-/
module

public import proofs.«01_k».proof.Defs
public import proofs.«01_k».proof.Proof.Frames
public import proofs.«01_k».proof.Proof.OutValue
public import proofs.«01_k».proof.Proof.RefValue
public import Idealize.ShloMosaic.Lib.LayoutAt

@[expose] public section

noncomputable section

namespace Cert.Moe

open Cert.KernelIdeal Cert.KernelIdeal.Gen

open Idealize.ShloMosaic
open Idealize.ShloMosaic.TcCoe
open Idealize.SL.Sem

set_option maxRecDepth 16384

variable (m : (ℓ : Loc nD τ sig) → Buf (Elt Ideal) ℓ) (ρ : Dev nD → PrngReg)

/-! ## The windows are the whole arrays -/

theorem xAt_whole (c : Dev nD) : xAt m c = m ((c.tc : Thread nD τ).loc main_arg0) :=
  Memref.read_access_unit_zero (Elt Ideal) main_arg0 (off := fun a => win0_0.index (0 : Fin 1) a * main_arg0.ty.shape.size a)
    (funext fun a => by fin_cases a <;> decide) (fun a => by fin_cases a <;> decide) _
theorem rwAt_whole (c : Dev nD) : rwAt m c = m ((c.tc : Thread nD τ).loc main_arg1) :=
  Memref.read_access_unit_zero (Elt Ideal) main_arg1 (off := fun a => win0_1.index (0 : Fin 1) a * main_arg1.ty.shape.size a)
    (funext fun a => by fin_cases a <;> decide) (fun a => by fin_cases a <;> decide) _
theorem ixAt_whole (c : Dev nD) : ixAt m c = m ((c.tc : Thread nD τ).loc main_arg2) :=
  Memref.read_access_unit_zero (Elt Ideal) main_arg2 (off := fun a => win0_2.index (0 : Fin 1) a * main_arg2.ty.shape.size a)
    (funext fun a => by fin_cases a <;> decide) (fun a => by fin_cases a <;> decide) _
theorem pairAt_whole (c : Dev nD) : pairAt m c = m ((c.tc : Thread nD τ).loc main_arg3) :=
  Memref.read_access_unit_zero (Elt Ideal) main_arg3 (off := fun a => win0_3.index (0 : Fin 1) a * main_arg3.ty.shape.size a)
    (funext fun a => by fin_cases a <;> decide) (fun a => by fin_cases a <;> decide) _
theorem swAt_whole (c : Dev nD) : swAt m c = m ((c.tc : Thread nD τ).loc main_arg4) :=
  Memref.read_access_unit_zero (Elt Ideal) main_arg4 (off := fun a => win0_4.index (0 : Fin 1) a * main_arg4.ty.shape.size a)
    (funext fun a => by fin_cases a <;> decide) (fun a => by fin_cases a <;> decide) _

/-- The result array ends holding what the body stored. -/
theorem finalA_out (c : Dev nD) : finalA m ρ c 5 = outAt m c := by
  have hr := fun f => Memref.read_access_unit_zero (Elt Ideal) main_v1 (off := fun a => win0_5.index (0 : Fin 1) a * main_v1.ty.shape.size a)
    (funext fun a => by fin_cases a <;> decide) (fun a => by fin_cases a <;> decide) f
  have ho : (win0_5.blk (0 : Fin 1)).view.read (Elt Ideal) (finalA m ρ c 5) = outAt m c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from flush0_5 _, if_pos rfl]
    exact View.read_write_univ _ _
  exact (hr _).symm.trans ho

/-! ## Blocks, by coordinates -/

/-- Token `t` of block `c`. -/
def row (c : Fin 16) (t : Fin 256) : Fin 4096 := ⟨c.val * 256 + t.val, by omega⟩

theorem block_tokens (v : Shape.Idx ⟨2, ![4096, 128]⟩ → EReal) (c : Fin 16) (t : Fin 256) (k : Fin 128) :
    Layout.block ⟨2, ![256, 128]⟩ ⟨2, ![4096, 128]⟩ 0 16 c v (by decide) (ix2 t k) = v (ix2 (row c t) k) :=
  congrArg v (funext fun a => Fin.ext (by fin_cases a <;> rfl))
theorem block_routes (v : Shape.Idx ⟨2, ![4096, 1]⟩ → BitVec 32) (c : Fin 16) (t : Fin 256) (k : Fin 1) :
    Layout.block ⟨2, ![256, 1]⟩ ⟨2, ![4096, 1]⟩ 0 16 c v (by decide) (ix2 t k) = v (ix2 (row c t) k) :=
  congrArg v (funext fun a => Fin.ext (by fin_cases a <;> rfl))
theorem block_results (v : Shape.Idx ⟨2, ![4096, 256]⟩ → EReal) (c : Fin 16) (t h : Fin 256) :
    Layout.block ⟨2, ![256, 256]⟩ ⟨2, ![4096, 256]⟩ 0 16 c v (by decide) (ix2 t h) = v (ix2 (row c t) h) :=
  congrArg v (funext fun a => Fin.ext (by fin_cases a <;> rfl))
theorem block_experts (v : Shape.Idx ⟨3, ![32, 128, 256]⟩ → EReal) (g : Fin 32) (k : Fin 128) (h : Fin 256) :
    Layout.block ⟨3, ![2, 128, 256]⟩ ⟨3, ![32, 128, 256]⟩ 0 16 (⟨g.val / 2, by omega⟩ : Fin 16) v (by decide) (ix3 (⟨g.val % 2, by omega⟩ : Fin 2) k h) = v (ix3 g k h) :=
  congrArg v (funext fun a => Fin.ext (by
    fin_cases a
    · show g.val / 2 * 2 + g.val % 2 = g.val
      omega
    · rfl
    · rfl))

theorem two_coordinates {p q : Nat} (i : Shape.Idx ⟨2, ![p, q]⟩) : ∃ (a : Fin p) (b : Fin q), i = ix2 a b :=
  ⟨i 0, i 1, funext fun a => Fin.ext (by fin_cases a <;> rfl)⟩

/-! ## The claim -/

theorem algebraic : Cert.algebraic_KernelIdeal_ReferenceIdeal := by
  intro m ρ m' ρ' _ given
  refine ⟨Cert.ReferenceIdeal.Value.res_out0 m' 0, ?_, ?_⟩
  · refine (θ_run defs _ _).mono (fun r h c => ⟨?_, args_kept m ρ r h.1 c⟩) (run_main (F := Ideal) m ρ)
    refine ((h.1 c 5).trans (finalA_out m ρ c)).trans ?_
    funext i
    obtain ⟨t, h, rfl⟩ := two_coordinates i
    refine (outAt_apply m c t h).trans (Eq.symm ?_)
    refine (block_results _ c t h).trans ?_
    rw [Ref.res_eq]
    refine (Ref.term_apply _ _ _ _ _ (row c t) h).trans ?_
    have h0 : (fun k => xAt m c (ix2 t k)) = fun k => m' (((0 : Dev Cert.ReferenceIdeal.nD).tc : Thread Cert.ReferenceIdeal.nD Cert.ReferenceIdeal.τ).loc Cert.ReferenceIdeal.main_arg0) (ix2 (row c t) k) :=
      funext fun k => (congrFun ((xAt_whole m c).trans (given c).1) (ix2 t k)).trans (block_tokens _ c t k)
    have h1 : (fun k j => rwAt m c (ix2 k j)) = fun k j => m' (((0 : Dev Cert.ReferenceIdeal.nD).tc : Thread Cert.ReferenceIdeal.nD Cert.ReferenceIdeal.τ).loc Cert.ReferenceIdeal.main_arg1) (ix2 k j) :=
      funext fun k => funext fun j => congrFun ((rwAt_whole m c).trans (given c).2.1) (ix2 k j)
    have h2 : ixAt m c (ix2 t 0) = m' (((0 : Dev Cert.ReferenceIdeal.nD).tc : Thread Cert.ReferenceIdeal.nD Cert.ReferenceIdeal.τ).loc Cert.ReferenceIdeal.main_arg2) (ix2 (row c t) 0) :=
      (congrFun ((ixAt_whole m c).trans (given c).2.2.1) (ix2 t 0)).trans (block_routes _ c t 0)
    have h3 : experts m = fun g k h => m' (((0 : Dev Cert.ReferenceIdeal.nD).tc : Thread Cert.ReferenceIdeal.nD Cert.ReferenceIdeal.τ).loc Cert.ReferenceIdeal.main_arg3) (ix3 g k h) :=
      funext fun g => funext fun k => funext fun h =>
        (congrFun ((pairAt_whole m _).trans (given _).2.2.2.1) (ix3 ⟨g.val % 2, by omega⟩ k h)).trans (block_experts _ g k h)
    have h4 : (fun k h => swAt m c (ix2 k h)) = fun k h => m' (((0 : Dev Cert.ReferenceIdeal.nD).tc : Thread Cert.ReferenceIdeal.nD Cert.ReferenceIdeal.τ).loc Cert.ReferenceIdeal.main_arg4) (ix2 k h) :=
      funext fun k => funext fun h => congrFun ((swAt_whole m c).trans (given c).2.2.2.2) (ix2 k h)
    rw [h0, h1, h2, h3, h4]
  · exact (θ_run Cert.ReferenceIdeal.defs _ _).mono (fun _ h => h 0) (Cert.ReferenceIdeal.Value.run (F := Ideal) m' ρ')

end Cert.Moe

end
-- ==== Proof.lean ====
module

public import proofs.«01_k».proof.Defs
public import proofs.«01_k».proof.Proof.Frames
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Moe.frame_kernel, Cert.Moe.frame_ideal, Cert.Moe.frame_reference, trivial, Cert.Moe.algebraic⟩

end Cert.Proof

end
